-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x100000 : Shape := ⟨2, ![64, 100000]⟩
abbrev S1x64 : Shape := ⟨2, ![1, 64]⟩
abbrev S64x2048 : Shape := ⟨2, ![64, 2048]⟩
abbrev S64 : Shape := ⟨1, ![64]⟩
abbrev S64x1 : Shape := ⟨2, ![64, 1]⟩

abbrev nBuf : Space → Nat
  | .hbm => 3
  | .vmem => 6
  | .smem => 0
  | _ => 0

abbrev bufTy : (tb : Table) → Fin (tcTables nBuf tb) → BufTy
  | .hbm, ⟨0, _⟩ => ⟨S64x100000, .f32⟩
  | .hbm, ⟨1, _⟩ => ⟨S1x64, .i32⟩
  | .hbm, ⟨2, _⟩ => ⟨S64, .i32⟩
  | .local _ .vmem, ⟨0, _⟩ => ⟨S64x2048, .f32⟩
  | .local _ .vmem, ⟨1, _⟩ => ⟨S64x2048, .f32⟩
  | .local _ .vmem, ⟨2, _⟩ => ⟨S1x64, .i32⟩
  | .local _ .vmem, ⟨3, _⟩ => ⟨S64x2048, .i32⟩
  | .local _ .vmem, ⟨4, _⟩ => ⟨S64x2048, .f32⟩
  | .local _ .vmem, ⟨5, _⟩ => ⟨S64x2048, .i32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c48_i32_3 : BitVec 32 := 48#32
  let v8 : BitVec 1 := Scalar.cmpi .eq arg0 c48_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S64x100000 : Shape := ⟨2, ![64, 100000]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩

abbrev nBuf : Space → Nat
  | .hbm => 288
  | .vmem => 0
  | .smem => 0
  | _ => 0

abbrev hbmTy0_0 (i : Nat) : BufTy := match i % 128 with
  | 0 => ⟨S64x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S64x100000, .i64⟩
  | 22 => ⟨S64x100000, .i64⟩
  | 23 => ⟨S_, .i64⟩
  | 24 => ⟨S64x100000, .i64⟩
  | 25 => ⟨S64x100000, .i64⟩
  | 26 => ⟨S_, .i64⟩
  | 27 => ⟨S64x100000, .i64⟩
  | 28 => ⟨S64x100000, .i64⟩
  | 29 => ⟨S64x100000, .i64⟩
  | 30 => ⟨S_, .i64⟩
  | 31 => ⟨S64x100000, .i64⟩
  | 32 => ⟨S64x100000, .i64⟩
  | 33 => ⟨S64x100000, .i32⟩
  | 34 => ⟨S64x100000, .i32⟩
  | 35 => ⟨S_, .i32⟩
  | 36 => ⟨S_, .i32⟩
  | 37 => ⟨S_, .i32⟩
  | 38 => ⟨S64x100000, .i32⟩
  | 39 => ⟨S64x100000, .i32⟩
  | 40 => ⟨S64x100000, .i32⟩
  | 41 => ⟨S64x100000, .i32⟩
  | 42 => ⟨S64x100000, .i32⟩
  | 43 => ⟨S_, .i32⟩
  | 44 => ⟨S64x100000, .i32⟩
  | 45 => ⟨S64x100000, .i32⟩
  | 46 => ⟨S_, .i32⟩
  | 47 => ⟨S64x100000, .i32⟩
  | 48 => ⟨S64x100000, .i32⟩
  | 49 => ⟨S64x100000, .i32⟩
  | 50 => ⟨S64x100000, .i32⟩
  | 51 => ⟨S64x100000, .i32⟩
  | 52 => ⟨S_, .i32⟩
  | 53 => ⟨S64x100000, .i32⟩
  | 54 => ⟨S64x100000, .i32⟩
  | 55 => ⟨S_, .i32⟩
  | 56 => ⟨S64x100000, .i32⟩
  | 57 => ⟨S64x100000, .i32⟩
  | 58 => ⟨S64x100000, .i32⟩
  | 59 => ⟨S64x100000, .i32⟩
  | 60 => ⟨S64x100000, .i32⟩
  | 61 => ⟨S_, .i32⟩
  | 62 => ⟨S64x100000, .i32⟩
  | 63 => ⟨S64x100000, .i32⟩
  | 64 => ⟨S_, .i32⟩
  | 65 => ⟨S64x100000, .i32⟩
  | 66 => ⟨S64x100000, .i32⟩
  | 67 => ⟨S64x100000, .i32⟩
  | 68 => ⟨S64x100000, .i32⟩
  | 69 => ⟨S64x100000, .i32⟩
  | 70 => ⟨S_, .i32⟩
  | 71 => ⟨S64x100000, .i32⟩
  | 72 => ⟨S64x100000, .i32⟩
  | 73 => ⟨S_, .i32⟩
  | 74 => ⟨S64x100000, .i32⟩
  | 75 => ⟨S64x100000, .i32⟩
  | 76 => ⟨S64x100000, .i32⟩
  | 77 => ⟨S64x100000, .i32⟩
  | 78 => ⟨S64x100000, .i32⟩
  | 79 => ⟨S64x100000, .i32⟩
  | 80 => ⟨S64x100000, .i32⟩
  | 81 => ⟨S64x100000, .i32⟩
  | 82 => ⟨S_, .i32⟩
  | 83 => ⟨S64x100000, .i32⟩
  | 84 => ⟨S64x100000, .i32⟩
  | 85 => ⟨S64x100000, .i32⟩
  | 86 => ⟨S_, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S64x100000, .i32⟩
  | 93 => ⟨S64x100000, .i32⟩
  | 94 => ⟨S64x100000, .i32⟩
  | 95 => ⟨S_, .i32⟩
  | 96 => ⟨S64x100000, .i32⟩
  | 97 => ⟨S64x100000, .i32⟩
  | 98 => ⟨S_, .i32⟩
  | 99 => ⟨S64x100000, .i32⟩
  | 100 => ⟨S64x100000, .i32⟩
  | 101 => ⟨S64x100000, .i32⟩
  | 102 => ⟨S64x100000, .i32⟩
  | 103 => ⟨S64x100000, .i32⟩
  | 104 => ⟨S_, .i32⟩
  | 105 => ⟨S64x100000, .i32⟩
  | 106 => ⟨S64x100000, .i32⟩
  | 107 => ⟨S_, .i32⟩
  | 108 => ⟨S64x100000, .i32⟩
  | 109 => ⟨S64x100000, .i32⟩
  | 110 => ⟨S64x100000, .i32⟩
  | 111 => ⟨S64x100000, .i32⟩
  | 112 => ⟨S64x100000, .i32⟩
  | 113 => ⟨S_, .i32⟩
  | 114 => ⟨S64x100000, .i32⟩
  | 115 => ⟨S64x100000, .i32⟩
  | 116 => ⟨S_, .i32⟩
  | 117 => ⟨S64x100000, .i32⟩
  | 118 => ⟨S64x100000, .i32⟩
  | 119 => ⟨S64x100000, .i32⟩
  | 120 => ⟨S64x100000, .i32⟩
  | 121 => ⟨S64x100000, .i32⟩
  | 122 => ⟨S64x100000, .i32⟩
  | 123 => ⟨S64x100000, .i32⟩
  | 124 => ⟨S64x100000, .i32⟩
  | 125 => ⟨S_, .i32⟩
  | 126 => ⟨S64x100000, .i32⟩
  | 127 => ⟨S64x100000, .i32⟩
  | _ => ⟨S64x100000, .f32⟩

abbrev hbmTy0_1 (i : Nat) : BufTy := match i % 128 with
  | 0 => ⟨S64x100000, .i32⟩
  | 1 => ⟨S_, .i32⟩
  | 2 => ⟨S64x100000, .i32⟩
  | 3 => ⟨S64x100000, .i32⟩
  | 4 => ⟨S_, .i32⟩
  | 5 => ⟨S64x100000, .i32⟩
  | 6 => ⟨S64x100000, .i32⟩
  | 7 => ⟨S64x100000, .i32⟩
  | 8 => ⟨S64x100000, .i32⟩
  | 9 => ⟨S64x100000, .i32⟩
  | 10 => ⟨S_, .i32⟩
  | 11 => ⟨S64x100000, .i32⟩
  | 12 => ⟨S64x100000, .i32⟩
  | 13 => ⟨S_, .i32⟩
  | 14 => ⟨S64x100000, .i32⟩
  | 15 => ⟨S64x100000, .i32⟩
  | 16 => ⟨S64x100000, .i32⟩
  | 17 => ⟨S64x100000, .i32⟩
  | 18 => ⟨S64x100000, .i32⟩
  | 19 => ⟨S_, .i32⟩
  | 20 => ⟨S64x100000, .i32⟩
  | 21 => ⟨S64x100000, .i32⟩
  | 22 => ⟨S_, .i32⟩
  | 23 => ⟨S64x100000, .i32⟩
  | 24 => ⟨S64x100000, .i32⟩
  | 25 => ⟨S64x100000, .i32⟩
  | 26 => ⟨S64x100000, .i32⟩
  | 27 => ⟨S64x100000, .i32⟩
  | 28 => ⟨S_, .i32⟩
  | 29 => ⟨S64x100000, .i32⟩
  | 30 => ⟨S64x100000, .i32⟩
  | 31 => ⟨S_, .i32⟩
  | 32 => ⟨S64x100000, .i32⟩
  | 33 => ⟨S64x100000, .i32⟩
  | 34 => ⟨S64x100000, .i32⟩
  | 35 => ⟨S64x100000, .i32⟩
  | 36 => ⟨S64x100000, .i32⟩
  | 37 => ⟨S64x100000, .i32⟩
  | 38 => ⟨S64x100000, .i32⟩
  | 39 => ⟨S64x100000, .i32⟩
  | 40 => ⟨S_, .i32⟩
  | 41 => ⟨S64x100000, .i32⟩
  | 42 => ⟨S64x100000, .i32⟩
  | 43 => ⟨S64x100000, .i32⟩
  | 44 => ⟨S_, .i32⟩
  | 45 => ⟨S64x100000, .i32⟩
  | 46 => ⟨S64x100000, .i32⟩
  | 47 => ⟨S_, .i32⟩
  | 48 => ⟨S64x100000, .i32⟩
  | 49 => ⟨S64x100000, .i32⟩
  | 50 => ⟨S64x100000, .i32⟩
  | 51 => ⟨S64x100000, .i32⟩
  | 52 => ⟨S64x100000, .i32⟩
  | 53 => ⟨S_, .i32⟩
  | 54 => ⟨S64x100000, .i32⟩
  | 55 => ⟨S64x100000, .i32⟩
  | 56 => ⟨S_, .i32⟩
  | 57 => ⟨S64x100000, .i32⟩
  | 58 => ⟨S64x100000, .i32⟩
  | 59 => ⟨S64x100000, .i32⟩
  | 60 => ⟨S64x100000, .i32⟩
  | 61 => ⟨S64x100000, .i32⟩
  | 62 => ⟨S_, .i32⟩
  | 63 => ⟨S64x100000, .i32⟩
  | 64 => ⟨S64x100000, .i32⟩
  | 65 => ⟨S_, .i32⟩
  | 66 => ⟨S64x100000, .i32⟩
  | 67 => ⟨S64x100000, .i32⟩
  | 68 => ⟨S64x100000, .i32⟩
  | 69 => ⟨S64x100000, .i32⟩
  | 70 => ⟨S64x100000, .i32⟩
  | 71 => ⟨S_, .i32⟩
  | 72 => ⟨S64x100000, .i32⟩
  | 73 => ⟨S64x100000, .i32⟩
  | 74 => ⟨S_, .i32⟩
  | 75 => ⟨S64x100000, .i32⟩
  | 76 => ⟨S64x100000, .i32⟩
  | 77 => ⟨S64x100000, .i32⟩
  | 78 => ⟨S64x100000, .i32⟩
  | 79 => ⟨S64x100000, .i32⟩
  | 80 => ⟨S64x100000, .i32⟩
  | 81 => ⟨S64x100000, .i32⟩
  | 82 => ⟨S64x100000, .i32⟩
  | 83 => ⟨S_, .i32⟩
  | 84 => ⟨S64x100000, .i32⟩
  | 85 => ⟨S64x100000, .i32⟩
  | 86 => ⟨S64x100000, .i32⟩
  | 87 => ⟨S_, .i32⟩
  | 88 => ⟨S64x100000, .i32⟩
  | 89 => ⟨S64x100000, .i32⟩
  | 90 => ⟨S_, .i32⟩
  | 91 => ⟨S64x100000, .i32⟩
  | 92 => ⟨S64x100000, .i32⟩
  | 93 => ⟨S64x100000, .i32⟩
  | 94 => ⟨S64x100000, .i32⟩
  | 95 => ⟨S64x100000, .i32⟩
  | 96 => ⟨S_, .i32⟩
  | 97 => ⟨S64x100000, .i32⟩
  | 98 => ⟨S64x100000, .i32⟩
  | 99 => ⟨S_, .i32⟩
  | 100 => ⟨S64x100000, .i32⟩
  | 101 => ⟨S64x100000, .i32⟩
  | 102 => ⟨S64x100000, .i32⟩
  | 103 => ⟨S64x100000, .i32⟩
  | 104 => ⟨S64x100000, .i32⟩
  | 105 => ⟨S_, .i32⟩
  | 106 => ⟨S64x100000, .i32⟩
  | 107 => ⟨S64x100000, .i32⟩
  | 108 => ⟨S_, .i32⟩
  | 109 => ⟨S64x100000, .i32⟩
  | 110 => ⟨S64x100000, .i32⟩
  | 111 => ⟨S64x100000, .i32⟩
  | 112 => ⟨S64x100000, .i32⟩
  | 113 => ⟨S64x100000, .i32⟩
  | 114 => ⟨S_, .i32⟩
  | 115 => ⟨S64x100000, .i32⟩
  | 116 => ⟨S64x100000, .i32⟩
  | 117 => ⟨S_, .i32⟩
  | 118 => ⟨S64x100000, .i32⟩
  | 119 => ⟨S64x100000, .i32⟩
  | 120 => ⟨S64x100000, .i32⟩
  | 121 => ⟨S64x100000, .i32⟩
  | 122 => ⟨S64x100000, .i32⟩
  | 123 => ⟨S64x100000, .i32⟩
  | 124 => ⟨S64x100000, .i32⟩
  | 125 => ⟨S64x100000, .i32⟩
  | 126 => ⟨S_, .i32⟩
  | 127 => ⟨S64x100000, .i32⟩
  | _ => ⟨S64x100000, .f32⟩

abbrev hbmTy0_2 (i : Nat) : BufTy := match i % 128 with
  | 0 => ⟨S64x100000, .i32⟩
  | 1 => ⟨S64x100000, .i32⟩
  | 2 => ⟨S_, .i32⟩
  | 3 => ⟨S64x100000, .i32⟩
  | 4 => ⟨S64x100000, .i32⟩
  | 5 => ⟨S_, .i32⟩
  | 6 => ⟨S64x100000, .i32⟩
  | 7 => ⟨S64x100000, .i32⟩
  | 8 => ⟨S64x100000, .f32⟩
  | 9 => ⟨S_, .f32⟩
  | 10 => ⟨S64x100000, .f32⟩
  | 11 => ⟨S64x100000, .f32⟩
  | 12 => ⟨S1x1, .f32⟩
  | 13 => ⟨S64x100000, .f32⟩
  | 14 => ⟨S64x100000, .f32⟩
  | 15 => ⟨S64x100000, .f32⟩
  | 16 => ⟨S64x100000, .f32⟩
  | 17 => ⟨S64x100000, .f32⟩
  | 18 => ⟨S64x100000, .f32⟩
  | 19 => ⟨S_, .f32⟩
  | 20 => ⟨S64x100000, .f32⟩
  | 21 => ⟨S64x100000, .f32⟩
  | 22 => ⟨S64x100000, .f32⟩
  | 23 => ⟨S64x100000, .f32⟩
  | 24 => ⟨S64x100000, .f32⟩
  | 25 => ⟨S64x100000, .f32⟩
  | 26 => ⟨S64x100000, .f32⟩
  | 27 => ⟨S64x100000, .i32⟩
  | 28 => ⟨S_, .f32⟩
  | 29 => ⟨S_, .i32⟩
  | 30 => ⟨S64, .f32⟩
  | 31 => ⟨S64, .i32⟩
  | _ => ⟨S64x100000, .f32⟩

abbrev hbmTy (i : Nat) : BufTy := match i / 128 with
  | 0 => hbmTy0_0 i
  | 1 => hbmTy0_1 i
  | 2 => hbmTy0_2 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_call1_v0 : Ref sig .tc := ⟨.hbm, 283, rfl⟩
abbrev main_call1_cst : Ref sig .tc := ⟨.hbm, 284, rfl⟩
abbrev main_call1_c : Ref sig .tc := ⟨.hbm, 285, rfl⟩
abbrev main_call1_v1_0 : Ref sig .tc := ⟨.hbm, 286, rfl⟩
abbrev main_v15 : Ref sig .tc := ⟨.hbm, 287, rfl⟩

abbrev nD : Nat := 1
abbrev τ : Topo := Topo.v7x

variable {F : FTy → Type} [FloatOps F]
-- ==== Proof.Body.lean ====
/-
  The body of the sampling kernel, run once at each of its three kinds of grid point: the first block of columns
  (which initialises the scratch), a block in the middle (which folds its scores into the scratch) and the last block
  (which folds its own scores in and writes the sampled columns). For any float values.
-/
module

public import proofs.«01_k».proof.Proof.Gen.KernelIdeal.Skeleton
public import proofs.«01_k».proof.Proof.Gen.KernelIdeal.Frame

@[expose] public section

noncomputable section

namespace Cert.Sampler

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

/-! ## What the body computes, block by block -/

/-- The two operands of the last subtraction or maximum of the first block's scores: the uniform numbers before they
    are raised to the least positive normal number, and that number. -/
def first₁ : FVec F S64x2048 .f32 :=
  k0_pay40 (k0_pay38 (k0_pay27 k0_pay15 k0_pay16) (k0_pay28 k0_pay15 k0_pay16))
    (k0_pay39 (k0_pay27 k0_pay15 k0_pay16) (k0_pay28 k0_pay15 k0_pay16)) 42#32

/-- The scores the first block leaves in the running maximum, from its logits `X`. -/
def firstVal (X : Vec F S64x2048 .f32) : FVec F S64x2048 .f32 := k0_pay1 X first₁ k0_pay41

/-- A middle block's negated Gumbel noise, from the counters `B` of the first block and the block's number `a`. -/
def mid₁ (a : BitVec 32) (B : Vec F S64x2048 .i32) : FVec F S64x2048 .f32 :=
  k0_pay76 (k0_pay73 (k0_pay62 (k0_pay50 a B) (k0_pay51 a B)) (k0_pay63 (k0_pay50 a B) (k0_pay51 a B)))
    (k0_pay74 (k0_pay62 (k0_pay50 a B) (k0_pay51 a B)) (k0_pay63 (k0_pay50 a B) (k0_pay51 a B))) k0_pay75

/-- The last block's negated Gumbel noise, likewise. -/
def last₁ (a : BitVec 32) (B : Vec F S64x2048 .i32) : FVec F S64x2048 .f32 :=
  k0_pay113 (k0_pay111 (k0_pay99 (k0_pay86 a B) (k0_pay87 a B)) (k0_pay100 (k0_pay86 a B) (k0_pay87 a B)))
    (k0_pay112 (k0_pay99 (k0_pay86 a B) (k0_pay87 a B)) (k0_pay100 (k0_pay86 a B) (k0_pay87 a B))) 13#32

/-- The grid coordinate as the word the body reads. -/
abbrev word (i : grid0.Coords) : BitVec 32 := BitVec.ofNat 32 (i 0).val

/-- The running maximum after a middle block with logits `X`. -/
def midVal (i : grid0.Coords) (X : Vec F S64x2048 .f32) (B : Vec F S64x2048 .i32) (A : Vec F S64x2048 .f32) : FVec F S64x2048 .f32 :=
  k0_pay5 X (mid₁ (word i) B) k0_pay77 A

/-- The number of the block each lane's running maximum came from, after a middle block. -/
def midBlk (i : grid0.Coords) (X : Vec F S64x2048 .f32) (B : Vec F S64x2048 .i32) (A : Vec F S64x2048 .f32) (K : Vec F S64x2048 .i32) : IVec S64x2048 32 :=
  k0_pay4 i X (mid₁ (word i) B) k0_pay77 A K

/-- The sampled columns, one per row, which the last block writes. -/
def lastOut (i : grid0.Coords) (X : Vec F S64x2048 .f32) (B : Vec F S64x2048 .i32) (A : Vec F S64x2048 .f32) (K : Vec F S64x2048 .i32) : IVec S1x64 32 :=
  k0_pay6 i (iota .tc S64x2048 32 [1] iota_S64x2048_d1_w32) X (last₁ (word i) B) (Scalar.ofBits .f32 0x00000000#32) A K A

/-! ## The run of the body at each kind of point -/

/-- What the body holds: the logits' staging buffer, the result's, and the three scratch buffers. -/
abbrev held (c : Dev nD) (s0 : Fin 2) (s1 : Fin 1) (X : S64x2048.Idx → Elt F .f32) (O : S1x64.Idx → Elt F .i32)
    (B : S64x2048.Idx → Elt F .i32) (A : S64x2048.Idx → Elt F .f32) (K : S64x2048.Idx → Elt F .i32) : sProp 𝕄 :=
  iprop(owns (c : Thread nD τ) (stage0_0 s0) fullShare X ∗ owns (c : Thread nD τ) (stage0_1 s1) fullShare O
    ∗ (((c : Thread nD τ).loc cc0_scratch0) ↦{fullShare} B) ∗ (((c : Thread nD τ).loc cc0_scratch1) ↦{fullShare} A)
    ∗ (((c : Thread nD τ).loc cc0_scratch2) ↦{fullShare} K))

/-- The printed body at the grid setting `i`, on the staging buffers `s0` and `s1` and the scratch. -/
abbrev body (i : grid0.Coords) (s0 : Fin 2) (s1 : Fin 1) : Prog (TpuEff nD τ sig (Elt F) Λ₀ .tc) PUnit :=
  cc0__sample_kernel i (stage0_0 s0) (hstage0_0 s0) (stage0_1 s1) (hstage0_1 s1) (Memref.whole cc0_scratch0) (Memref.isWhole_whole _)
    (Memref.whole cc0_scratch1) (Memref.isWhole_whole _) (Memref.whole cc0_scratch2) (Memref.isWhole_whole _)

theorem zero_offs : (![0, 0] : Fin 2 → Nat) = fun _ => 0 := funext fun a => by fin_cases a <;> rfl

/-- A load of the whole of a buffer reads its contents. -/
theorem load_stg0 (h : 0 < 2) (f : S64x2048.Idx → Elt F .f32) : (stage0_0 ⟨0, h⟩).view.readAt (Elt F) (Rect.unit (s := S64x2048) ![0, 0] S64x2048.size
    inb_S64x2048_S64x2048_0_0).toLoadRect f = f := Memref.readAt_unit_zero (Elt F) cc0_stg0_0 zero_offs _ f
theorem load_stg1 (h : 1 < 2) (f : S64x2048.Idx → Elt F .f32) : (stage0_0 ⟨1, h⟩).view.readAt (Elt F) (Rect.unit (s := S64x2048) ![0, 0] S64x2048.size
    inb_S64x2048_S64x2048_0_0).toLoadRect f = f := Memref.readAt_unit_zero (Elt F) cc0_stg0_1 zero_offs _ f
theorem load_base (f : S64x2048.Idx → Elt F .i32) : (Memref.whole cc0_scratch0 : Memref sig .tc _ _ _).view.readAt (Elt F) (Rect.unit (s := S64x2048) ![0, 0] S64x2048.size
    inb_S64x2048_S64x2048_0_0).toLoadRect f = f := Memref.readAt_unit_zero (Elt F) cc0_scratch0 zero_offs _ f
theorem load_val (f : S64x2048.Idx → Elt F .f32) : (Memref.whole cc0_scratch1 : Memref sig .tc _ _ _).view.readAt (Elt F) (Rect.unit (s := S64x2048) ![0, 0] S64x2048.size
    inb_S64x2048_S64x2048_0_0).toLoadRect f = f := Memref.readAt_unit_zero (Elt F) cc0_scratch1 zero_offs _ f
theorem load_blk (f : S64x2048.Idx → Elt F .i32) : (Memref.whole cc0_scratch2 : Memref sig .tc _ _ _).view.readAt (Elt F) (Rect.unit (s := S64x2048) ![0, 0] S64x2048.size
    inb_S64x2048_S64x2048_0_0).toLoadRect f = f := Memref.readAt_unit_zero (Elt F) cc0_scratch2 zero_offs _ f
/-- A store to the whole of a buffer leaves what was stored. -/
theorem store_base : ∀ f w, (((Memref.whole cc0_scratch0).access (Rect.unit (s := S64x2048) ![0, 0] S64x2048.size inb_S64x2048_S64x2048_0_0)) :
    View sig .tc _ _ _).write (Elt F) f w Finset.univ = w := Memref.write_access_unit_zero_univ (Elt F) cc0_scratch0 zero_offs _
theorem store_val : ∀ f w, (((Memref.whole cc0_scratch1).access (Rect.unit (s := S64x2048) ![0, 0] S64x2048.size inb_S64x2048_S64x2048_0_0)) :
    View sig .tc _ _ _).write (Elt F) f w Finset.univ = w := Memref.write_access_unit_zero_univ (Elt F) cc0_scratch1 zero_offs _
theorem store_blk : ∀ f w, (((Memref.whole cc0_scratch2).access (Rect.unit (s := S64x2048) ![0, 0] S64x2048.size inb_S64x2048_S64x2048_0_0)) :
    View sig .tc _ _ _).write (Elt F) f w Finset.univ = w := Memref.write_access_unit_zero_univ (Elt F) cc0_scratch2 zero_offs _
theorem store_out (h : 0 < 1) : ∀ f w, (((stage0_1 ⟨0, h⟩).access (Rect.unit (s := S1x64) ![0, 0] S1x64.size inb_S1x64_S1x64_0_0)) :
    View sig .tc _ _ _).write (Elt F) f w Finset.univ = w := Memref.write_access_unit_zero_univ (Elt F) cc0_stg1_0 zero_offs _

/-- The three conditions the body branches on, decided at each of its 49 grid settings. -/
theorem conds (n : Fin 49) :
    (Scalar.cmpi .ne (Scalar.extui (Scalar.cmpi .eq (BitVec.ofNat 32 n.val) 0#32) : BitVec 32) 0#32 = 1#1 ↔ n.val = 0)
    ∧ (Scalar.cmpi .ne (Scalar.extui (Scalar.andi (Scalar.cmpi .sgt (BitVec.ofNat 32 n.val) 0#32) (Scalar.cmpi .slt (BitVec.ofNat 32 n.val) 48#32)) : BitVec 32) 0#32 = 1#1
        ↔ 0 < n.val ∧ n.val < 48)
    ∧ (Scalar.cmpi .ne (Scalar.extui (Scalar.cmpi .eq (BitVec.ofNat 32 n.val) 48#32) : BitVec 32) 0#32 = 1#1 ↔ n.val = 48) := by
  revert n; decide

/-- The last condition, as the printed program names it. -/
theorem cond3 (i : grid0.Coords) : k0_cond3 i = 1#1 ↔ (i 0).val = 48 := (conds (i 0)).2.2

/-- The first block: the counters, the scores and the block numbers are initialised; the result is left as found. -/
theorem sound_first (c : Dev nD) (E : Set ℕ) (i : grid0.Coords) (hi : (i 0).val = 0) (s0 : Fin 2) (s1 : Fin 1)
    (X : S64x2048.Idx → Elt F .f32) (O : S1x64.Idx → Elt F .i32)
    (B : S64x2048.Idx → Elt F .i32) (A : S64x2048.Idx → Elt F .f32) (K : S64x2048.Idx → Elt F .i32) (Q : PUnit → sProp 𝕄) :
    iprop(held c s0 s1 X O B A K ∗ (held c s0 s1 X O k0_pay8 (firstVal X) k0_pay2 -∗ Q ⟨⟩))
      ⊢ wp frame (wpE (defs₀ (F := F)) 𝒱₀ c none) E (body i s0 s1) Q := by
  have c1 := ((conds (i 0)).1).mpr (by omega)
  have c2 := mt ((conds (i 0)).2.1).mp (by omega)
  have c3 := mt (cond3 i).mp (by omega)
  fin_cases s1
  fin_cases s0
  all_goals
    simp only [held, body, owns_whole_eq, cc0__sample_kernel_eq_skeleton]
    unfold cc0__sample_kernel_skel
    rw [dif_pos c1, dif_neg c2, dif_neg c3]
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, pure_bind]
    iintro ⟨⟨⟨%f0, %hf0, H0⟩, ⟨%f1, %hf1, H1⟩, H2, H3, H4⟩, Hk⟩
    sl_steps
    iapply Hk
    subst hf0 hf1
    repeat first | rw [load_stg0] | rw [load_stg1] | rw [load_base] | rw [load_val] | rw [load_blk] | rw [store_base] | rw [store_val] | rw [store_blk] | rw [store_out]
    isplitl [H0]
    · iexists _; isplitr; · ipureintro; rfl
      iexact H0
    isplitl [H1]
    · iexists _; isplitr; · ipureintro; rfl
      iexact H1
    isplitl [H2]; · iexact H2
    isplitl [H3]; · iexact H3
    iexact H4

/-- A middle block: its scores are folded into the running maximum and the block numbers; the result is left as found. -/
theorem sound_mid (c : Dev nD) (E : Set ℕ) (i : grid0.Coords) (hi : 0 < (i 0).val ∧ (i 0).val < 48) (s0 : Fin 2) (s1 : Fin 1)
    (X : S64x2048.Idx → Elt F .f32) (O : S1x64.Idx → Elt F .i32)
    (B : S64x2048.Idx → Elt F .i32) (A : S64x2048.Idx → Elt F .f32) (K : S64x2048.Idx → Elt F .i32) (Q : PUnit → sProp 𝕄) :
    iprop(held c s0 s1 X O B A K ∗ (held c s0 s1 X O B (midVal i X B A) (midBlk i X B A K) -∗ Q ⟨⟩))
      ⊢ wp frame (wpE (defs₀ (F := F)) 𝒱₀ c none) E (body i s0 s1) Q := by
  have c1 := mt ((conds (i 0)).1).mp (by omega)
  have c2 := ((conds (i 0)).2.1).mpr (by omega)
  have c3 := mt (cond3 i).mp (by omega)
  fin_cases s1
  fin_cases s0
  all_goals
    simp only [held, body, owns_whole_eq, cc0__sample_kernel_eq_skeleton]
    unfold cc0__sample_kernel_skel
    rw [dif_neg c1, dif_pos c2, dif_neg c3]
    simp only [k0_part5_eq_skeleton, k0_part6_eq_skeleton, k0_part7_eq_skeleton, k0_part8_eq_skeleton]
    unfold k0_part5_skel k0_part6_skel k0_part7_skel k0_part8_skel
    simp only [Prog.lift, Prog.bind_op, Prog.bind_ret, pure_bind]
    iintro ⟨⟨⟨%f0, %hf0, H0⟩, ⟨%f1, %hf1, H1⟩, H2, H3, H4⟩, Hk⟩
    sl_steps
    iapply Hk
    subst hf0 hf1
    repeat first | rw [load_stg0] | rw [load_stg1] | rw [load_base] | rw [load_val] | rw [load_blk] | rw [store_base] | rw [store_val] | rw [store_blk] | rw [store_out]
    isplitl [H0]
    · iexists _; isplitr; · ipureintro; rfl
      iexact H0
    isplitl [H1]
    · iexists _; isplitr; · ipureintro; rfl
      iexact H1
    isplitl [H2]; · iexact H2
    isplitl [H3]; · iexact H3
    iexact H4

/-- The last block: the sampled columns are written; the scratch is left as found. -/
theorem sound_last (c : Dev nD) (E : Set ℕ) (i : grid0.Coords) (hi : (i 0).val = 48) (s0 : Fin 2) (s1 : Fin 1)
    (X : S64x2048.Idx → Elt F .f32) (O : S1x64.Idx → Elt F .i32)
    (B : S64x2048.Idx → Elt F .i32) (A : S64x2048.Idx → Elt F .f32) (K : S64x2048.Idx → Elt F .i32) (Q : PUnit → sProp 𝕄) :
    iprop(held c s0 s1 X O B A K ∗ (held c s0 s1 X (lastOut i X B A K) B A K -∗ Q ⟨⟩))
      ⊢ wp frame (wpE (defs₀ (F := F)) 𝒱₀ c none) E (body i s0 s1) Q := by
  have c1 := mt ((conds (i 0)).1).mp (by omega)
  have c2 := mt ((conds (i 0)).2.1).mp (by omega)
  have c3 := (cond3 i).mpr (by omega)
  fin_cases s1
  fin_cases s0
  all_goals
    simp only [held, body, owns_whole_eq, cc0__sample_kernel_eq_skeleton]
    unfold cc0__sample_kernel_skel
    rw [dif_neg c1, dif_neg c2, dif_pos c3]
    simp only [k0_part9_eq_skeleton, k0_part10_eq_skeleton, k0_part11_eq_skeleton, k0_part12_eq_skeleton]
    unfold k0_part9_skel k0_part10_skel k0_part11_skel k0_part12_skel
    simp only [Prog.lift, Prog.bind_op, Prog.bind_ret, pure_bind]
    iintro ⟨⟨⟨%f0, %hf0, H0⟩, ⟨%f1, %hf1, H1⟩, H2, H3, H4⟩, Hk⟩
    sl_steps
    iapply Hk
    subst hf0 hf1
    repeat first | rw [load_stg0] | rw [load_stg1] | rw [load_base] | rw [load_val] | rw [load_blk] | rw [store_base] | rw [store_val] | rw [store_blk] | rw [store_out]
    isplitl [H0]
    · iexists _; isplitr; · ipureintro; rfl
      iexact H0
    isplitl [H1]
    · iexists _; isplitr; · ipureintro; rfl
      iexact H1
    isplitl [H2]; · iexact H2
    isplitl [H3]; · iexact H3
    iexact H4

end Cert.Sampler
-- ==== Proof.SmallWord.lean ====
/-
  Words that hold small naturals, under the signed comparison.
-/
module

public import Idealize.ShloMosaic.PureOps

@[expose] public section

namespace Cert

open Idealize.ShloMosaic

/-- Signed comparison of two words that hold small naturals. -/
theorem slt_ofNat {a b : ℕ} (ha : a < 2 ^ 31) (hb : b < 2 ^ 31) : (BitVec.ofNat 32 a).slt (BitVec.ofNat 32 b) = decide (a < b) := by
  have e : ∀ x : ℕ, x < 2 ^ 31 → (BitVec.ofNat 32 x).toInt = (x : ℤ) := fun x hx => by
    rw [BitVec.toInt_eq_toNat_of_lt] <;> rw [BitVec.toNat_ofNat] <;> omega
  rw [BitVec.slt, e a ha, e b hb]
  exact decide_eq_decide.mpr (by omega)

end Cert
-- ==== Proof.Run.lean ====
/-
  The run of the sampling kernel, for any float values: what the scratch holds between the grid's points, the body's
  obligation at every point, and the run of the whole program with the result array in closed form.
-/
module

public import proofs.«01_k».proof.Proof.Body
public import proofs.«01_k».proof.Proof.SmallWord
public import Idealize.ShloMosaic.Lib.Pipeline.ValueKit

@[expose] public section

noncomputable section

namespace Cert.Sampler

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of logits -/

/-- The grid's point `n`, the last one from 48 on. -/
abbrev pt (n : ℕ) : Fin cfg0.N := ⟨min n 48, lt_of_le_of_lt (Nat.min_le_right _ _) (by rw [show cfg0.N = 49 from N_0]; decide)⟩

theorem pt_val (t : Fin cfg0.N) : pt t.val = t :=
  Fin.ext (Nat.min_eq_left (Nat.le_of_lt_succ (lt_of_lt_of_eq t.isLt N_0)))

/-- The one coordinate of the grid's point `t` is `t`. -/
theorem coords_val : ∀ t : Fin cfg0.N, (grid0.coords t 0).val = t.val := by decide +kernel

/-- How much of block `t` lies inside the logits: all 64 rows, and the columns below 100000. -/
theorem xsize_val : ∀ t : Fin cfg0.N, win0_0.xsize (grid0.coords t) 0 = 64 ∧ win0_0.xsize (grid0.coords t) 1 = min 2048 (100000 - t.val * 2048) := by
  decide +kernel

/-- Block `t` of the logits as the body may read it: the columns inside the array, and zero past its end. -/
def xblk (c : Dev nD) (t : Fin cfg0.N) : S64x2048.Idx → Elt F .f32 :=
  win0_0.fill (grid0.coords t) (fun _ => Scalar.ofBits .f32 0#32) (iblk m c 0 t)

/-- A position of the block inside the array holds the block's logit, whatever the buffer held. -/
theorem fill_inside (c : Dev nD) (t : Fin cfg0.N) (d : S64x2048.Idx → Elt F .f32) (j : S64x2048.Idx) (hj : t.val * 2048 + (j 1).val < 100000) :
    win0_0.fill (grid0.coords t) d (iblk m c 0 t) j = xblk m c t j := by
  have h := xsize_val t
  have hm : win0_0.moved (grid0.coords t) j = true := (win0_0.moved_iff _ _).mpr fun a => by
    have h0 : (j 0).val < 64 := (j 0).isLt
    have h1 : (j 1).val < 2048 := (j 1).isLt
    match a with
    | ⟨0, _⟩ => show (j 0).val < win0_0.xsize (grid0.coords t) 0; omega
    | ⟨1, _⟩ => show (j 1).val < win0_0.xsize (grid0.coords t) 1; omega
  unfold xblk Window.fill
  rw [dif_pos hm, dif_pos hm]

/-- No block but the last overhangs the array. -/
theorem fill_whole (c : Dev nD) (t : Fin cfg0.N) (ht : t.val < 48) (d : S64x2048.Idx → Elt F .f32) :
    win0_0.fill (grid0.coords t) d (iblk m c 0 t) = xblk m c t := by
  funext j
  have h1 : (j 1).val < 2048 := (j 1).isLt
  exact fill_inside m c t d j (by omega)

/-! ## The last block's result, and the columns it does not depend on -/

/-- The last block's scores, with −∞ at the columns past the array's end. -/
def masked (i : grid0.Coords) (X : Vec F S64x2048 .f32) (B : Vec F S64x2048 .i32) : FVec F S64x2048 .f32 :=
  select (cmpi .slt (addi (iota .tc S64x2048 32 [1] iota_S64x2048_d1_w32) (broadcast S64x2048 (Scalar.muli (word i) 2048#32)))
      (broadcast S64x2048 100000#32))
    (addf (subf (broadcast S64x2048 (Scalar.ofBits .f32 0x00000000#32)) (last₁ (word i) B)) X)
    (broadcast S64x2048 (Scalar.ofBits .f32 0xFF800000#32))

/-- The number of the block each lane's maximum came from, the last block's scores `V` folded in. -/
def lastBlk (i : grid0.Coords) (V : FVec F S64x2048 .f32) (A : Vec F S64x2048 .f32) (K : Vec F S64x2048 .i32) : IVec S64x2048 32 :=
  select (cmpf .ogt V A) (broadcast S64x2048 (word i)) K

/-- The candidate columns of each row, one per lane: the column of the lane's maximum where that is the row's maximum, a
    word above every column elsewhere. -/
def cands (i : grid0.Coords) (V : FVec F S64x2048 .f32) (A : Vec F S64x2048 .f32) (K : Vec F S64x2048 .i32) : IVec S64x2048 32 :=
  select (cmpf .oeq (maximumf V A) (broadcastTo S64x2048 (shapeCast S64x1
      (multiReduction .maximumf [1] S64 (maximumf V A) 0xFF800000#32 reduces_S64x2048_S64 (.inl rfl) rfl) shapeCasts_S64_S64x1) broadcasts_S64x1_S64x2048))
    (addi (muli (lastBlk i V A K) (broadcast S64x2048 2048#32)) (iota .tc S64x2048 32 [1] iota_S64x2048_d1_w32))
    (broadcast S64x2048 2147483647#32)

/-- What the last block writes, from its masked scores: each row's least candidate. -/
theorem lastOut_eq (i : grid0.Coords) (X : Vec F S64x2048 .f32) (B : Vec F S64x2048 .i32) (A : Vec F S64x2048 .f32) (K : Vec F S64x2048 .i32) :
    lastOut i X B A K = transpose S1x64 [1, 0] (shapeCast S64x1
      (multiReductionI .minsi [1] S64 (cands i (masked i X B) A K) 2147483647#32 reduces_S64x2048_S64 rfl) shapeCasts_S64_S64x1) transposes_S64x1_p1_0_S1x64 := rfl

/-- The condition the last block masks by, at a lane: the lane's column is below the array's end. -/
theorem mask_apply (i : grid0.Coords) (hi : (i 0).val = 48) (j : S64x2048.Idx) :
    cmpi .slt (addi (iota .tc S64x2048 32 [1] iota_S64x2048_d1_w32) (broadcast S64x2048 (Scalar.muli (word i) 2048#32)))
      (broadcast S64x2048 100000#32) j = BitVec.ofBool (decide ((j 1).val < 1696)) := by
  have hj : (j 1).val < 2048 := (j 1).isLt
  have e : addi (iota .tc S64x2048 32 [1] iota_S64x2048_d1_w32) (broadcast S64x2048 (Scalar.muli (word i) 2048#32)) j
      = BitVec.ofNat 32 ((j 1).val + 98304) := by
    show BitVec.ofNat 32 (0 * 2048 + (j 1).val) + BitVec.ofNat 32 (i 0).val * 2048#32 = _
    rw [hi, BitVec.ofNat_add, ← BitVec.ofNat_add, Nat.zero_mul, Nat.zero_add, BitVec.ofNat_add]
    congr 1
  refine (congrArg (fun w : BitVec 32 => BitVec.ofBool (w.slt (BitVec.ofNat 32 100000))) e).trans ?_
  show BitVec.ofBool _ = _
  rw [slt_ofNat (by omega) (by omega)]
  exact congrArg BitVec.ofBool (decide_eq_decide.mpr (by omega))

/-- The result depends on the logits at the columns inside the array only. -/
theorem lastOut_congr (i : grid0.Coords) (hi : (i 0).val = 48) (X X' : Vec F S64x2048 .f32) (B : Vec F S64x2048 .i32) (A : Vec F S64x2048 .f32)
    (K : Vec F S64x2048 .i32) (h : ∀ j : S64x2048.Idx, (j 1).val < 1696 → X j = X' j) : lastOut i X B A K = lastOut i X' B A K := by
  have e : masked i X B = masked i X' B := by
    funext j
    have hm := mask_apply i hi j
    unfold masked select
    rw [hm]
    by_cases hj : (j 1).val < 1696
    · show (if _ then FloatOps.addf (_ : F .f32) (X j) else _) = (if _ then FloatOps.addf (_ : F .f32) (X' j) else _)
      rw [h j hj]
    · rw [decide_eq_false hj]; rfl
  rw [lastOut_eq, lastOut_eq, e]

/-! ## What the scratch holds between the points -/

/-- The running maximum after point `n` (below 48). -/
def valAt (c : Dev nD) : ℕ → Vec F S64x2048 .f32
  | 0 => firstVal (xblk m c (pt 0))
  | n + 1 => midVal (grid0.coords (pt (n + 1))) (xblk m c (pt (n + 1))) (k0_pay8 : IVec S64x2048 32) (valAt c n)

/-- The number of the block each lane's running maximum came from, after point `n` (below 48). -/
def blkAt (c : Dev nD) : ℕ → Vec F S64x2048 .i32
  | 0 => (k0_pay2 : IVec S64x2048 32)
  | n + 1 => midBlk (grid0.coords (pt (n + 1))) (xblk m c (pt (n + 1))) (k0_pay8 : IVec S64x2048 32) (valAt m c n) (blkAt c n)

/-- The sampled columns. -/
@[irreducible] def outRow (c : Dev nD) : IVec S1x64 32 :=
  lastOut (grid0.coords (pt 48)) (xblk m c (pt 48)) (k0_pay8 : IVec S64x2048 32) (valAt m c 47) (blkAt m c 47)

/-- The scratch at given contents, and the generator's register. -/
def scr (c : Dev nD) (A : S64x2048.Idx → Elt F .f32) (K : S64x2048.Idx → Elt F .i32) : sProp 𝕄 :=
  iprop((((c : Thread nD τ).loc cc0_scratch0) ↦{fullShare} (k0_pay8 : IVec S64x2048 32)) ∗ (((c : Thread nD τ).loc cc0_scratch1) ↦{fullShare} A)
    ∗ (((c : Thread nD τ).loc cc0_scratch2) ↦{fullShare} K) ∗ ∃ r, prngReg c r)

/-- The body's own resources before point `n`: anything at the start, the running maximum so far after that. -/
def PhiS (c : Dev nD) : ℕ → sProp 𝕄
  | 0 => Pipeline.ΦA spec0 c
  | n + 1 => scr c (valAt m c (min n 47)) (blkAt m c (min n 47))

/-- After point `n`, the scratch holds what that point left; the last point leaves it as found. -/
theorem PhiS_of (c : Dev nD) (k n : ℕ) (hk : 0 < k) (hn : min (k - 1) 47 = n) : PhiS m c k = scr c (valAt m c n) (blkAt m c n) := by
  obtain ⟨j, rfl⟩ : ∃ j, k = j + 1 := ⟨k - 1, by omega⟩
  subst hn
  rfl

/-- The proof data: the arrays as launched; after the body the logits' buffer as fetched and the result's at the
    sampled columns; the scratch between the points. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => outRow m c
  Φ t := PhiS m c t.val
  q _ := fullShare
  owed _ := 0

/-- What the body finds in the logits' buffer. -/
theorem before_0 (c : Dev nD) (t : Fin cfg0.N) (d) :
    (dats m 0 c).before (0 : Fin 2) t d = win0_0.fill (grid0.coords t) d (iblk m c 0 t) := by
  unfold Dat.before; rw [if_pos (fetch0_0 t)]; rfl

/-! ## The body's obligation -/

theorem body_obligation (c : Dev nD) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl,
    show (dats m 0 c).Φ t.succ = PhiS m c (t.val + 1) from rfl,
    show (dats m 0 c).Φ t.castSucc = PhiS m c t.val from rfl]
  have ht : t.val < 49 := lt_of_lt_of_eq t.isLt N_0
  have hc := coords_val t
  have hcut : ∀ d, (win0 0).fill (grid0.coords t) d ((win0 0).cut (grid0.coords t) ((dats m 0 c).after (0 : Fin 2) t))
      = win0_0.fill (grid0.coords t) d (iblk m c 0 t) := fun d => by
    show win0_0.fill (grid0.coords t) d (win0_0.cut (grid0.coords t) (xblk m c t)) = _
    unfold xblk; rw [Window.cut_fill]
  simp only [hcut]
  rcases Nat.lt_or_ge t.val 48 with h48 | h48
  · have hidle : idle0 (1 : Fin 2) (grid0.coords t) = true := by
      show (!(k0_cond3 (grid0.coords t) == 1#1)) = true
      have := mt (cond3 (grid0.coords t)).mp (by omega)
      simpa using this
    have hflush : (win0 (1 : Fin 2)).flush t = false := by
      rw [Bool.eq_false_iff]; exact mt (flush0_1 t).mp (by omega)
    rw [hidle, hflush]
    simp only
    rcases Nat.eq_zero_or_pos t.val with h0 | h0
    · have ex : xblk m c t = xblk m c (pt 0) := congrArg _ ((pt_val t).symm.trans (congrArg pt h0))
      rw [show PhiS m c t.val = Pipeline.ΦA spec0 c by rw [h0]; rfl,
        show PhiS m c (t.val + 1) = scr c (firstVal (xblk m c t)) (k0_pay2 : IVec S64x2048 32) by rw [h0, ex]; rfl]
      unfold Pipeline.ΦA scr
      rw [scopedRest0_eq]
      iintro ⟨⟨⟨⟨%B, HB⟩, ⟨%A, HA⟩, ⟨%K, HK⟩⟩, Hp⟩, Ho, ⟨%d0, H0⟩, ⟨%d1, H1⟩⟩
      rw [before_0 m c t d0, fill_whole m c t h48 d0]
      iapply (sound_first (F := F) c Set.univ (grid0.coords t) (by omega) (cfg0.slots t 0) (cfg0.slots t 1) (xblk m c t)
        ((dats m 0 c).before (1 : Fin 2) t d1) B A K _)
      isplitl [H0 H1 HB HA HK]
      · isplitl [H0]; · iexact H0
        isplitl [H1]; · iexact H1
        isplitl [HB]; · iexact HB
        isplitl [HA]; · iexact HA
        iexact HK
      iintro ⟨H0, H1, HB, HA, HK⟩
      isplitl [HB HA HK Hp]
      · isplitl [HB]; · iexact HB
        isplitl [HA]; · iexact HA
        isplitl [HK]; · iexact HK
        iexact Hp
      isplitl [Ho]; · iexact Ho
      isplitl [H0]
      · iexists (fun _ => Scalar.ofBits .f32 0#32)
        rw [fill_whole m c t h48]; iexact H0
      iexists d1; iexact H1
    · have en : t.val = (t.val - 1) + 1 := by omega
      have ept : pt (t.val - 1 + 1) = t := by rw [← en]; exact pt_val t
      have eA : valAt m c t.val = midVal (grid0.coords t) (xblk m c t) (k0_pay8 : IVec S64x2048 32) (valAt m c (t.val - 1)) := by
        conv_lhs => rw [en]
        rw [valAt, ept]
      have eK : blkAt m c t.val = midBlk (grid0.coords t) (xblk m c t) (k0_pay8 : IVec S64x2048 32) (valAt m c (t.val - 1)) (blkAt m c (t.val - 1)) := by
        conv_lhs => rw [en]
        rw [blkAt, ept]
      rw [PhiS_of m c t.val (t.val - 1) (by omega) (by omega), PhiS_of m c (t.val + 1) t.val (by omega) (by omega), eA, eK]
      unfold scr
      iintro ⟨⟨HB, HA, HK, Hp⟩, Ho, ⟨%d0, H0⟩, ⟨%d1, H1⟩⟩
      rw [before_0 m c t d0, fill_whole m c t h48 d0]
      iapply (sound_mid (F := F) c Set.univ (grid0.coords t) (by omega) (cfg0.slots t 0) (cfg0.slots t 1) (xblk m c t)
        ((dats m 0 c).before (1 : Fin 2) t d1) (k0_pay8 : IVec S64x2048 32) (valAt m c (t.val - 1)) (blkAt m c (t.val - 1)) _)
      isplitl [H0 H1 HB HA HK]
      · isplitl [H0]; · iexact H0
        isplitl [H1]; · iexact H1
        isplitl [HB]; · iexact HB
        isplitl [HA]; · iexact HA
        iexact HK
      iintro ⟨H0, H1, HB, HA, HK⟩
      isplitl [HB HA HK Hp]
      · isplitl [HB]; · iexact HB
        isplitl [HA]; · iexact HA
        isplitl [HK]; · iexact HK
        iexact Hp
      isplitl [Ho]; · iexact Ho
      isplitl [H0]
      · iexists (fun _ => Scalar.ofBits .f32 0#32)
        rw [fill_whole m c t h48]; iexact H0
      iexists d1; iexact H1
  · have et : t.val = 48 := by omega
    have eP : PhiS m c t.val = scr c (valAt m c 47) (blkAt m c 47) := PhiS_of m c t.val 47 (by omega) (by omega)
    have eP' : PhiS m c (t.val + 1) = scr c (valAt m c 47) (blkAt m c 47) := PhiS_of m c (t.val + 1) 47 (by omega) (by omega)
    have hin : ∀ j : S64x2048.Idx, (j 1).val < 1696 → t.val * 2048 + (j 1).val < 100000 := fun j hj => by omega
    have hc48 : (grid0.coords t 0).val = 48 := by omega
    have ept : pt 48 = t := by rw [← et]; exact pt_val t
    have hidle : idle0 (1 : Fin 2) (grid0.coords t) = false := by
      show (!(k0_cond3 (grid0.coords t) == 1#1)) = false
      rw [(cond3 (grid0.coords t)).mpr hc48]; rfl
    rw [hidle]
    simp only
    rw [eP, eP',
      show (dats m 0 c).after (1 : Fin 2) t = outRow m c from rfl]
    unfold scr
    iintro ⟨⟨HB, HA, HK, Hp⟩, Ho, ⟨%d0, H0⟩, ⟨%d1, H1⟩⟩
    rw [before_0 m c t d0]
    iapply (sound_last (F := F) c Set.univ (grid0.coords t) hc48 (cfg0.slots t 0) (cfg0.slots t 1)
      (win0_0.fill (grid0.coords t) d0 (iblk m c 0 t)) ((dats m 0 c).before (1 : Fin 2) t d1)
      (k0_pay8 : IVec S64x2048 32) (valAt m c 47) (blkAt m c 47) _)
    isplitl [H0 H1 HB HA HK]
    · isplitl [H0]; · iexact H0
      isplitl [H1]; · iexact H1
      isplitl [HB]; · iexact HB
      isplitl [HA]; · iexact HA
      iexact HK
    rw [show lastOut (grid0.coords t) (win0_0.fill (grid0.coords t) d0 (iblk m c 0 t)) (k0_pay8 : IVec S64x2048 32) (valAt m c 47) (blkAt m c 47)
        = outRow m c by
      unfold outRow
      rw [ept]
      exact lastOut_congr _ hc48 _ _ _ _ _ fun j hj => fill_inside m c t d0 j (hin j hj)]
    iintro ⟨H0, H1, HB, HA, HK⟩
    isplitl [HB HA HK Hp]
    · isplitl [HB]; · iexact HB
      isplitl [HA]; · iexact HA
      isplitl [HK]; · iexact HK
      iexact Hp
    isplitl [Ho]; · iexact Ho
    isplitl [H0]
    · iexists d0
      iexact H0
    iexact H1

/-! ## The run -/

/-- The kernel's own result array, after the run: the last point writes the whole of it. -/
theorem arrAt_out (c : Dev nD) : (dats m 0 c).arrAt (1 : Fin 2) cfg0.N = outRow m c := by
  refine (dats m 0 c).arrAt_eq_of_after_last (1 : Fin 2) (pt 48) (by decide +kernel) _ fun j => ?_
  rfl

/-- The program's result is no array of the pipeline. -/
theorem main_v1_rest : main_v1 ∈ Pipeline.restRefs sig (cfgs 0).spec := by
  decide +kernel

/-- The program's result after the run: the kernel's, as one axis. -/
theorem final_v1 (c : Dev nD) : Pipeline.afterTail₀ cfgs (dats m) 0 (V0 m) [hostOps1] c main_v1 = shapeCast S64 (outRow m c) shapeCasts_S1x64_S64 := by
  have h := Pipeline.withArrays_arr spec0 launch0.win.arr_inj c (V0 m c) (fun w => (dats m 0 c).arrAt w cfg0.N) (1 : Fin 2)
  have h' := h.trans (arrAt_out m c)
  unfold Pipeline.afterTail₀
  show (StableHlo.reshape main_v0 main_v1 rfl shapeCasts_S1x64_S64 : HloOp τ sig (Elt F)).result
    (Pipeline.withArrays spec0 c (V0 m c) (fun w => (dats m 0 c).arrAt w cfg0.N)) (Proc.devRef .tc main_v1) = _
  refine (StableHlo.reshape_result main_v0 main_v1 rfl shapeCasts_S1x64_S64 _ _ _).trans ?_
  exact congrArg (fun x : IVec S1x64 32 => shapeCast S64 x shapeCasts_S1x64_S64) h'

set_option backward.isDefEq.respectTransparency.types false in
/-- The run of the whole program, for any float values: the argument unchanged, every semaphore at zero again, and the
    result array at the sampled columns. -/
theorem run_main : θ_run defs (onTc (τ := τ) (main (F := F))) ⟨m, fun _ => 0, ρ⟩ (fun r => (∀ c : Dev nD,
      r.2.mem ((c.tc : Thread nD τ).loc main_v1) = shapeCast S64 (outRow m c) shapeCasts_S1x64_S64
      ∧ r.2.mem ((c.tc : Thread nD τ).loc main_arg0) = m ((c.tc : Thread nD τ).loc main_arg0)) ∧ r.2.sem = fun _ => 0) :=
  Pipeline.θ_run_frame_around_track cfgs (dats m) 0 launch0 defs₀ 𝒱₀ m ρ main
    (hbody := body_obligation m) (hshare := fun c => (dats m 0 c).share_full fun _ => rfl) (howed := fun _ _ => rfl)
    (V₀ := V0 m) (opss := [hostOps1]) sfx_sub sfx_fresh sfx_keeps (Gen.hmain m 𝒱₀) (hA := fun _ _ => rfl)
    (hin := fun c => BI.Entails.refl _)
    (hout := fun c => by
      show PhiS m c cfg0.N ⊢ _
      rw [PhiS_of m c cfg0.N 47 (by rw [show cfg0.N = 49 from N_0]; decide) (by rw [show cfg0.N = 49 from N_0]; rfl)]
      unfold scr Pipeline.ΦA
      rw [scopedRest0_eq]
      iintro ⟨HB, HA, HK, Hp⟩
      isplitl [HB HA HK]
      · isplitl [HB]; · iexists _; iexact HB
        isplitl [HA]; · iexists _; iexact HA
        iexists _; iexact HK
      iexact Hp)
    (Q' := fun r => (∀ c : Dev nD,
      r.2.mem ((c.tc : Thread nD τ).loc main_v1) = shapeCast S64 (outRow m c) shapeCasts_S1x64_S64
      ∧ r.2.mem ((c.tc : Thread nD τ).loc main_arg0) = m ((c.tc : Thread nD τ).loc main_arg0)) ∧ r.2.sem = fun _ => 0)
    (hQ' := fun r h => ⟨fun c => ⟨((h.1 c).2 main_v1 main_v1_rest).trans (final_v1 m c),
      (((h.1 c).1 (0 : Fin 2)).trans ((dats m 0 c).arrAt_in (0 : Fin 2) rfl _)).trans (V_main_arg0 m c)⟩, h.2⟩)

end Cert.Sampler
-- ==== Proof.StraightLine.lean ====
/-
  Straight lines of host operations in which every operation writes a new buffer. The contents such a line ends with
  are left as they are by each of its operations, so each operation's equation holds of the final contents: the line
  can be read one operation at a time, in any order.
-/
module

public import Idealize.ShloMosaic.Lib.StableHlo.RunHlo

@[expose] public section

namespace Cert.Line

open Idealize.ShloMosaic Idealize.ShloMosaic.StableHlo Idealize.ShloMosaic.TcCoe Idealize.SL.Sem

variable {nD : Nat} {τ : Topo} {sig : RefSig} {Val : EltTy → Type} {Λ : Labels}

/-! ## Programs in parts -/

/-- A program of one operation is the line of it. -/
theorem isSeq_single (op : HloOp τ sig Val) :
    IsSeq (nD := nD) (Λ := Λ) (hlo rfl op fun _ => .ret (⟨⟩ : PUnit)) [op] := rfl

/-- Two lines one after the other are the line of both lists. -/
theorem isSeq_append {p q : Prog (TpuEff nD τ sig Val Λ .tc) PUnit} {a b : List (HloOp τ sig Val)}
    (hp : IsSeq p a) (hq : IsSeq q b) : IsSeq (p >>= fun _ => q) (a ++ b) := by
  unfold IsSeq at *
  subst hp hq
  induction a with
  | nil => rfl
  | cons op l ih =>
    show ((hlo rfl op fun _ => .ret (⟨⟩ : PUnit)) >>= fun _ => seq l) >>= (fun _ => seq b) = _
    rw [bind_assoc, ih]
    rfl

/-- The line of a program, read off it, is also the list it equals. -/
theorem isSeq_of {p : Prog (TpuEff nD τ sig Val Λ .tc) PUnit} {a b : List (HloOp τ sig Val)} (h : IsSeq p a) (e : a = b) :
    IsSeq p b := e ▸ h

/-! ## The order of the buffers -/

/-- A buffer's number. -/
abbrev rk (r : Ref sig .tc) : ℕ := r.idx.val

/-- The operation writes buffers of number `n` only, touches none of a higher number, and does the same if repeated. -/
structure Step (op : HloOp τ sig Val) (n : ℕ) : Prop where
  fresh : op.fresh = ∅
  bufs : ∀ b ∈ op.bufs, ∃ r : Ref sig .tc, b = Proc.devRef .tc r ∧ rk r ≤ n
  writes : ∀ b ∈ op.writes, ∃ r : Ref sig .tc, b = Proc.devRef .tc r ∧ rk r = n
  again : ∀ V : Valuation τ sig Val, op.result (op.result V) = op.result V

/-- The line's operations write the buffers `n`, `n + 1`, … in turn, each reading below its own. -/
def Ssa : ℕ → List (HloOp τ sig Val) → Prop
  | _, [] => True
  | n, op :: l => Step op n ∧ Ssa (n + 1) l

theorem ssa_append {a b : List (HloOp τ sig Val)} {n k : ℕ} (ha : Ssa n a) (hb : Ssa k b) (hk : n + a.length = k) :
    Ssa n (a ++ b) := by
  induction a generalizing n with
  | nil => exact (show n = k from hk) ▸ hb
  | cons op l ih => exact ⟨ha.1, ih ha.2 (by rw [← hk, List.length_cons]; omega)⟩

/-- A line writing from `n` on keeps every buffer below `n`. -/
theorem after_below {l : List (HloOp τ sig Val)} {n : ℕ} (h : Ssa n l) (V : Valuation τ sig Val) {r : Ref sig .tc}
    (hr : rk r < n) : after l V (Proc.devRef .tc r) = V (Proc.devRef .tc r) := by
  induction l generalizing n V with
  | nil => rfl
  | cons op l ih =>
    refine (ih h.2 (op.result V) (Nat.lt_succ_of_lt hr)).trans (HloOp.result_of_not_mem _ _ fun hm => ?_)
    obtain ⟨r', he, hn⟩ := h.1.writes _ hm
    have : r = r' := Proc.devRef_injective .tc he
    subst this
    omega

/-- The line's operations touch buffers of the TensorCore only, and every result is determined. -/
theorem ssa_forall {l : List (HloOp τ sig Val)} {n : ℕ} (h : Ssa n l) :
    (l.Forall fun op => op.bufs ⊆ tcRefs τ sig) ∧ ∀ op ∈ l, op.fresh = ∅ := by
  have : ∀ op ∈ l, op.bufs ⊆ tcRefs τ sig ∧ op.fresh = ∅ := by
    induction l generalizing n with
    | nil => exact fun _ hm => absurd hm List.not_mem_nil
    | cons op l ih =>
      refine List.forall_mem_cons.mpr ⟨⟨fun b hb => ?_, h.1.fresh⟩, ih h.2⟩
      obtain ⟨r, rfl, -⟩ := h.1.bufs b hb
      exact Finset.mem_map.mpr ⟨r, Finset.mem_univ _, rfl⟩
  exact ⟨List.forall_iff_forall_mem.mpr fun op hm => (this op hm).1, fun op hm => (this op hm).2⟩

/-- Every operation of the line leaves the contents `W` as they are. -/
def Fixes (W : Valuation τ sig Val) (l : List (HloOp τ sig Val)) : Prop := ∀ op ∈ l, op.result W = W

theorem fixes_append {W : Valuation τ sig Val} {a b : List (HloOp τ sig Val)} :
    Fixes W (a ++ b) ↔ Fixes W a ∧ Fixes W b := List.forall_mem_append

theorem fixes_cons {W : Valuation τ sig Val} {op : HloOp τ sig Val} {l : List (HloOp τ sig Val)} :
    Fixes W (op :: l) ↔ op.result W = W ∧ Fixes W l := List.forall_mem_cons

/-- The contents a line ends with are left as they are by its every operation. -/
theorem fixes_after {l : List (HloOp τ sig Val)} {n : ℕ} (h : Ssa n l) (V : Valuation τ sig Val) :
    Fixes (after l V) l := by
  induction l generalizing n V with
  | nil => exact fun _ hm => absurd hm List.not_mem_nil
  | cons op l ih =>
    refine fixes_cons.mpr ⟨?_, ih h.2 (op.result V)⟩
    have hk : ∀ b ∈ op.bufs, after l (op.result V) b = op.result V b := fun b hb => by
      obtain ⟨r, rfl, hr⟩ := h.1.bufs b hb
      exact after_below h.2 _ (Nat.lt_succ_of_le hr)
    funext b
    show op.result (after l (op.result V)) b = after l (op.result V) b
    by_cases hb : b ∈ op.writes
    · rw [hk b (op.writes_sub hb), ← congrFun (h.1.again V) b]
      exact HloOp.result_congr op hk b (op.writes_sub hb)
    · exact HloOp.result_of_not_mem _ _ hb

/-! ## One operation at a time -/

section
variable {Tx Ta Tb Tc Te Ty : BufTy}

/-- A value as the contents `W` hold it. -/
abbrev rd (W : Valuation τ sig Val) (t : TRef sig Tx) : Tx.Contents Val := t.ofBuf (W (Proc.devRef .tc t.ref))

/-- An operation writing buffer `n` alone, whose result is determined by buffers below `n`. -/
theorem step_of {op : HloOp τ sig Val} {n : ℕ} (y : Ref sig .tc) (hf : op.fresh = ∅)
    (hw : op.writes = {Proc.devRef .tc y}) (hy : rk y = n)
    (hb : ∀ b ∈ op.bufs, b = Proc.devRef .tc y ∨ ∃ r : Ref sig .tc, b = Proc.devRef .tc r ∧ rk r < n)
    (hr : ∀ V W : Valuation τ sig Val, (∀ r : Ref sig .tc, rk r < n → V (Proc.devRef .tc r) = W (Proc.devRef .tc r)) →
      op.result V (Proc.devRef .tc y) = op.result W (Proc.devRef .tc y)) : Step op n where
  fresh := hf
  bufs b h := by
    rcases hb b h with rfl | ⟨r, rfl, hr⟩
    · exact ⟨y, rfl, hy.le⟩
    · exact ⟨r, rfl, hr.le⟩
  writes b h := by
    rw [hw, Finset.mem_singleton] at h
    exact ⟨y, h, hy⟩
  again V := by
    funext b
    by_cases h : b ∈ op.writes
    · have hb' := h
      rw [hw, Finset.mem_singleton] at hb'
      subst hb'
      refine hr _ _ fun r hrn => HloOp.result_of_not_mem _ _ fun hm => ?_
      rw [hw, Finset.mem_singleton] at hm
      have : r = y := Proc.devRef_injective .tc hm
      subst this
      omega
    · exact HloOp.result_of_not_mem _ _ h

theorem step_nullary (y : Ref sig .tc) (v) (hy') {n : ℕ} (hy : rk y = n) :
    Step (nullary (τ := τ) (Val := Val) y v hy') n :=
  step_of y rfl rfl hy (fun b h => .inl (Finset.mem_singleton.mp h))
    (fun V W _ => by rw [nullary_result, nullary_result])

theorem step_unary (x y : Ref sig .tc) (f) (hx' hy') {n : ℕ} (hy : rk y = n) (hx : rk x < n) :
    Step (unary (τ := τ) (Val := Val) x y f hx' hy') n :=
  step_of y rfl rfl hy (fun b h => by
      simp only [unary, Finset.mem_insert, Finset.mem_singleton] at h
      rcases h with rfl | rfl
      · exact .inr ⟨x, rfl, hx⟩
      · exact .inl rfl)
    (fun V W h => by rw [unary_result, unary_result, h x hx])

theorem step_reshape (x y : Ref sig .tc) (he hn hx' hy') {n : ℕ} (hy : rk y = n) (hx : rk x < n) :
    Step (reshape (τ := τ) (Val := Val) x y he hn hx' hy') n :=
  step_of y rfl rfl hy (fun b h => by
      rw [show (reshape (τ := τ) (Val := Val) x y he hn hx' hy').bufs = {Proc.devRef .tc x, Proc.devRef .tc y} from rfl] at h
      simp only [Finset.mem_insert, Finset.mem_singleton] at h
      rcases h with rfl | rfl
      · exact .inr ⟨x, rfl, hx⟩
      · exact .inl rfl)
    (fun V W h => by rw [reshape_result, reshape_result, h x hx])

theorem step_binary (a b y : Ref sig .tc) (f) (ha' hb' hy') {n : ℕ} (hy : rk y = n) (ha : rk a < n) (hb : rk b < n) :
    Step (binary (τ := τ) (Val := Val) a b y f ha' hb' hy') n :=
  step_of y rfl rfl hy (fun c h => by
      simp only [binary, Finset.mem_insert, Finset.mem_singleton] at h
      rcases h with rfl | rfl | rfl
      · exact .inr ⟨a, rfl, ha⟩
      · exact .inr ⟨b, rfl, hb⟩
      · exact .inl rfl)
    (fun V W h => by rw [binary_result, binary_result, h a ha, h b hb])

theorem step_quaternary (a b c e y : Ref sig .tc) (f) (ha' hb' hc' he' hy') {n : ℕ} (hy : rk y = n) (ha : rk a < n)
    (hb : rk b < n) (hc : rk c < n) (he : rk e < n) :
    Step (quaternary (τ := τ) (Val := Val) a b c e y f ha' hb' hc' he' hy') n :=
  step_of y rfl rfl hy (fun d h => by
      simp only [quaternary, Finset.mem_insert, Finset.mem_singleton] at h
      rcases h with rfl | rfl | rfl | rfl | rfl
      · exact .inr ⟨a, rfl, ha⟩
      · exact .inr ⟨b, rfl, hb⟩
      · exact .inr ⟨c, rfl, hc⟩
      · exact .inr ⟨e, rfl, he⟩
      · exact .inl rfl)
    (fun V W h => by rw [quaternary_result, quaternary_result, h a ha, h b hb, h c hc, h e he])

variable {W : Valuation τ sig Val}

/-- A constant's buffer holds it. -/
theorem read_nullary {y : TRef sig Ty} {v : Ty.Contents Val} (h : (TRef.nullary (τ := τ) y v).result W = W) :
    rd W y = v := by
  obtain ⟨y, rfl, hy, hy'⟩ := y
  exact (congrFun h (Proc.devRef .tc y)).symm.trans (nullary_result y v _ W)

theorem read_unary {x : TRef sig Tx} {y : TRef sig Ty} {f : Tx.Contents Val → Ty.Contents Val}
    (h : (TRef.unary (τ := τ) x y f).result W = W) : rd W y = f (rd W x) := by
  obtain ⟨x, rfl, hx, hx'⟩ := x
  obtain ⟨y, rfl, hy, hy'⟩ := y
  exact (congrFun h (Proc.devRef .tc y)).symm.trans (unary_result x y f _ _ W)

theorem read_binary {a : TRef sig Ta} {b : TRef sig Tb} {y : TRef sig Ty}
    {f : Ta.Contents Val → Tb.Contents Val → Ty.Contents Val}
    (h : (TRef.binary (τ := τ) a b y f).result W = W) : rd W y = f (rd W a) (rd W b) := by
  obtain ⟨a, rfl, ha, ha'⟩ := a
  obtain ⟨b, rfl, hb, hb'⟩ := b
  obtain ⟨y, rfl, hy, hy'⟩ := y
  exact (congrFun h (Proc.devRef .tc y)).symm.trans (binary_result a b y f _ _ _ W)

theorem read_quaternary {a : TRef sig Ta} {b : TRef sig Tb} {c : TRef sig Tc} {e : TRef sig Te} {y : TRef sig Ty}
    {f : Ta.Contents Val → Tb.Contents Val → Tc.Contents Val → Te.Contents Val → Ty.Contents Val}
    (h : (TRef.quaternary (τ := τ) a b c e y f).result W = W) : rd W y = f (rd W a) (rd W b) (rd W c) (rd W e) := by
  obtain ⟨a, rfl, ha, ha'⟩ := a
  obtain ⟨b, rfl, hb, hb'⟩ := b
  obtain ⟨c, rfl, hc, hc'⟩ := c
  obtain ⟨e, rfl, he, he'⟩ := e
  obtain ⟨y, rfl, hy, hy'⟩ := y
  exact (congrFun h (Proc.devRef .tc y)).symm.trans (quaternary_result a b c e y f _ _ _ _ _ W)

theorem read_reshape {x : TRef sig Tx} {y : TRef sig Ty} {he : Tx.elt = Ty.elt} {hn : Tx.shape.ShapeCasts Ty.shape}
    (h : (TRef.reshape (τ := τ) (Val := Val) x y he hn).result W = W) :
    rd W y = fun i => he ▸ shapeCast Ty.shape (rd W x) hn i := by
  obtain ⟨x, rfl, hx, hx'⟩ := x
  obtain ⟨y, rfl, hy, hy'⟩ := y
  exact (congrFun h (Proc.devRef .tc y)).symm.trans (reshape_result x y he hn _ _ W)

end

end Cert.Line
-- ==== Proof.RefOps.lean ====
/-
  The reference program as one line of operations: the list, that the program runs it, that every operation writes a
  new buffer, and so the run: the contents `after` the list, which every operation of the list leaves as they are.
-/
module

public import proofs.«01_k».proof.Proof.StraightLine
public import proofs.«01_k».proof.Proof.Gen.ReferenceIdeal
public import Idealize.ShloMosaic.Lib.Quiescent

@[expose] public section

noncomputable section

namespace Cert.RefRun

open Cert.ReferenceIdeal Cert.ReferenceIdeal.Facts₀ Cert.Line
open Idealize.ShloMosaic Idealize.ShloMosaic.StableHlo Idealize.ShloMosaic.TcCoe Idealize.SL.Sem

variable {F : FTy → Type} [FloatOps F]

/-- An array of words, one for each position of the logits. -/
abbrev Arr := TRef sig ⟨S64x100000, .i32⟩
/-- A single word. -/
abbrev Sca := TRef sig ⟨S_, .i32⟩

/-- The operations of one type, over this program's buffers. -/
abbrev Ops (F : FTy → Type) := List (HloOp τ sig (Elt F))

/-! ## The hash -/

/-- The nine operations of one round of the hash: the sum `y0` of the two halves, the second half shifted each way, the
    two joined, and combined with the sum. -/
def roundOps (r r' : BitVec 32) (x0 x1 y0 : Arr) (c : Sca) (b s : Arr) (c' : Sca) (b' s' o y1 : Arr) : Ops F :=
  [TRef.binary x0 x1 y0 addi,
   TRef.nullary c (constantI S_ 32 r),
   TRef.unary c b (broadcastInDim S64x100000 ![] bcast_S_S64x100000),
   TRef.binary x1 b s Host.shli,
   TRef.nullary c' (constantI S_ 32 r'),
   TRef.unary c' b' (broadcastInDim S64x100000 ![] bcast_S_S64x100000),
   TRef.binary x1 b' s' Host.shrui,
   TRef.binary s s' o ori,
   TRef.binary y0 o y1 xori]

/-- The seven operations of one key injection. -/
def injectOps (n : BitVec 32) (k k' : Sca) (x0 x1 b y0 b' t : Arr) (c : Sca) (b'' y1 : Arr) : Ops F :=
  [TRef.unary k b (broadcastInDim S64x100000 ![] bcast_S_S64x100000),
   TRef.binary x0 b y0 addi,
   TRef.unary k' b' (broadcastInDim S64x100000 ![] bcast_S_S64x100000),
   TRef.binary x1 b' t addi,
   TRef.nullary c (constantI S_ 32 n),
   TRef.unary c b'' (broadcastInDim S64x100000 ![] bcast_S_S64x100000),
   TRef.binary t b'' y1 addi]

/-- The operations before the first round: the third key word, and the key added to the counter. -/
def startOps (arg0 arg1 : Sca) (arg2 arg3 : Arr) (φ : fn_threefry2x32.Bufs) : Ops F :=
  [TRef.binary arg0 arg1 φ.v0 xori,
   TRef.nullary φ.c (constantI S_ 32 466688986#32),
   TRef.binary φ.v0 φ.c φ.v1 xori,
   TRef.unary arg0 φ.v2 (broadcastInDim S64x100000 ![] bcast_S_S64x100000),
   TRef.binary arg2 φ.v2 φ.v3 addi,
   TRef.unary arg1 φ.v4 (broadcastInDim S64x100000 ![] bcast_S_S64x100000),
   TRef.binary arg3 φ.v4 φ.v5 addi]

/-- Group 1: four rounds and a key injection. -/
def groupOps1 (arg0 arg1 : Sca) (φ : fn_threefry2x32.Bufs) : Ops F :=
  roundOps 13#32 19#32 φ.v3 φ.v5 φ.v6 φ.c_0 φ.v7 φ.v8 φ.c_1 φ.v9 φ.v10 φ.v11 φ.v12 ++
  roundOps 15#32 17#32 φ.v6 φ.v12 φ.v13 φ.c_2 φ.v14 φ.v15 φ.c_3 φ.v16 φ.v17 φ.v18 φ.v19 ++
  roundOps 26#32 6#32 φ.v13 φ.v19 φ.v20 φ.c_4 φ.v21 φ.v22 φ.c_5 φ.v23 φ.v24 φ.v25 φ.v26 ++
  roundOps 6#32 26#32 φ.v20 φ.v26 φ.v27 φ.c_6 φ.v28 φ.v29 φ.c_7 φ.v30 φ.v31 φ.v32 φ.v33 ++
  injectOps 1#32 arg1 φ.v1 φ.v27 φ.v33 φ.v34 φ.v35 φ.v36 φ.v37 φ.c_8 φ.v38 φ.v39

/-- Group 2: four rounds and a key injection. -/
def groupOps2 (arg0 arg1 : Sca) (φ : fn_threefry2x32.Bufs) : Ops F :=
  roundOps 17#32 15#32 φ.v35 φ.v39 φ.v40 φ.c_9 φ.v41 φ.v42 φ.c_10 φ.v43 φ.v44 φ.v45 φ.v46 ++
  roundOps 29#32 3#32 φ.v40 φ.v46 φ.v47 φ.c_11 φ.v48 φ.v49 φ.c_12 φ.v50 φ.v51 φ.v52 φ.v53 ++
  roundOps 16#32 16#32 φ.v47 φ.v53 φ.v54 φ.c_13 φ.v55 φ.v56 φ.c_14 φ.v57 φ.v58 φ.v59 φ.v60 ++
  roundOps 24#32 8#32 φ.v54 φ.v60 φ.v61 φ.c_15 φ.v62 φ.v63 φ.c_16 φ.v64 φ.v65 φ.v66 φ.v67 ++
  injectOps 2#32 φ.v1 arg0 φ.v61 φ.v67 φ.v68 φ.v69 φ.v70 φ.v71 φ.c_17 φ.v72 φ.v73

/-- Group 3: four rounds and a key injection. -/
def groupOps3 (arg0 arg1 : Sca) (φ : fn_threefry2x32.Bufs) : Ops F :=
  roundOps 13#32 19#32 φ.v69 φ.v73 φ.v74 φ.c_18 φ.v75 φ.v76 φ.c_19 φ.v77 φ.v78 φ.v79 φ.v80 ++
  roundOps 15#32 17#32 φ.v74 φ.v80 φ.v81 φ.c_20 φ.v82 φ.v83 φ.c_21 φ.v84 φ.v85 φ.v86 φ.v87 ++
  roundOps 26#32 6#32 φ.v81 φ.v87 φ.v88 φ.c_22 φ.v89 φ.v90 φ.c_23 φ.v91 φ.v92 φ.v93 φ.v94 ++
  roundOps 6#32 26#32 φ.v88 φ.v94 φ.v95 φ.c_24 φ.v96 φ.v97 φ.c_25 φ.v98 φ.v99 φ.v100 φ.v101 ++
  injectOps 3#32 arg0 arg1 φ.v95 φ.v101 φ.v102 φ.v103 φ.v104 φ.v105 φ.c_26 φ.v106 φ.v107

/-- Group 4: four rounds and a key injection. -/
def groupOps4 (arg0 arg1 : Sca) (φ : fn_threefry2x32.Bufs) : Ops F :=
  roundOps 17#32 15#32 φ.v103 φ.v107 φ.v108 φ.c_27 φ.v109 φ.v110 φ.c_28 φ.v111 φ.v112 φ.v113 φ.v114 ++
  roundOps 29#32 3#32 φ.v108 φ.v114 φ.v115 φ.c_29 φ.v116 φ.v117 φ.c_30 φ.v118 φ.v119 φ.v120 φ.v121 ++
  roundOps 16#32 16#32 φ.v115 φ.v121 φ.v122 φ.c_31 φ.v123 φ.v124 φ.c_32 φ.v125 φ.v126 φ.v127 φ.v128 ++
  roundOps 24#32 8#32 φ.v122 φ.v128 φ.v129 φ.c_33 φ.v130 φ.v131 φ.c_34 φ.v132 φ.v133 φ.v134 φ.v135 ++
  injectOps 4#32 arg1 φ.v1 φ.v129 φ.v135 φ.v136 φ.v137 φ.v138 φ.v139 φ.c_35 φ.v140 φ.v141

/-- Group 5: four rounds and a key injection. -/
def groupOps5 (arg0 arg1 : Sca) (φ : fn_threefry2x32.Bufs) : Ops F :=
  roundOps 13#32 19#32 φ.v137 φ.v141 φ.v142 φ.c_36 φ.v143 φ.v144 φ.c_37 φ.v145 φ.v146 φ.v147 φ.v148 ++
  roundOps 15#32 17#32 φ.v142 φ.v148 φ.v149 φ.c_38 φ.v150 φ.v151 φ.c_39 φ.v152 φ.v153 φ.v154 φ.v155 ++
  roundOps 26#32 6#32 φ.v149 φ.v155 φ.v156 φ.c_40 φ.v157 φ.v158 φ.c_41 φ.v159 φ.v160 φ.v161 φ.v162 ++
  roundOps 6#32 26#32 φ.v156 φ.v162 φ.v163 φ.c_42 φ.v164 φ.v165 φ.c_43 φ.v166 φ.v167 φ.v168 φ.v169 ++
  injectOps 5#32 φ.v1 arg0 φ.v163 φ.v169 φ.v170 φ.v171 φ.v172 φ.v173 φ.c_44 φ.v174 φ.v175

/-- The whole hash. -/
def threefryOps (arg0 arg1 : Sca) (arg2 arg3 : Arr) (φ : fn_threefry2x32.Bufs) : Ops F :=
  startOps arg0 arg1 arg2 arg3 φ ++ groupOps1 arg0 arg1 φ ++ groupOps2 arg0 arg1 φ ++ groupOps3 arg0 arg1 φ ++ groupOps4 arg0 arg1 φ ++ groupOps5 arg0 arg1 φ

/-- The hash's body, in the four parts it is written in, is the line of its operations. -/
theorem threefry_isSeq (arg0 arg1 : Sca) (arg2 arg3 : Arr) (φ : fn_threefry2x32.Bufs) :
    IsSeq (fn_threefry2x32.body (F := F) arg0 arg1 arg2 arg3 φ) (threefryOps arg0 arg1 arg2 arg3 φ) := by
  apply isSeq_of
  · apply isSeq_append (p := fn_threefry2x32.body_part0 arg0 arg1 arg2 arg3 φ)
    · iterate 59 apply IsSeq.cons
      exact isSeq_single _
    apply isSeq_append (p := fn_threefry2x32.body_part1 arg0 arg1 arg2 arg3 φ)
    · iterate 59 apply IsSeq.cons
      exact isSeq_single _
    apply isSeq_append (p := fn_threefry2x32.body_part2 arg0 arg1 arg2 arg3 φ)
    · iterate 59 apply IsSeq.cons
      exact isSeq_single _
    show IsSeq (fn_threefry2x32.body_part3 arg0 arg1 arg2 arg3 φ) _
    iterate 42 apply IsSeq.cons
    exact IsSeq.nil
  · rfl

/-! ## The other operations -/

/-- The key: the seed's high and low words. -/
def keyOps : Ops F :=
  [TRef.nullary (.of main_c) (constantI S_ 32 42#32),
   TRef.nullary (.of main_c_0) (constantI S_ 32 32#32),
   TRef.binary (.of main_c) (.of main_c_0) (.of main_v0) (Host.shrui : (⟨S_, .i32⟩ : BufTy).Contents (Elt F) → (⟨S_, .i32⟩ : BufTy).Contents (Elt F) → (⟨S_, .i32⟩ : BufTy).Contents (Elt F)),
   TRef.unary (.of main_v0) (.of main_v1) (id : (⟨S_, .i32⟩ : BufTy).Contents (Elt F) → (⟨S_, .i32⟩ : BufTy).Contents (Elt F)),
   TRef.unary (.of main_v1) (.of main_v2) (broadcastInDim S1 ![] bcast_S_S1 : (⟨S_, .i32⟩ : BufTy).Contents (Elt F) → (⟨S1, .i32⟩ : BufTy).Contents (Elt F)),
   TRef.nullary (.of main_c_1) (constantI S_ 32 4294967295#32),
   TRef.binary (.of main_c) (.of main_c_1) (.of main_v3) (andi : (⟨S_, .i32⟩ : BufTy).Contents (Elt F) → (⟨S_, .i32⟩ : BufTy).Contents (Elt F) → (⟨S_, .i32⟩ : BufTy).Contents (Elt F)),
   TRef.unary (.of main_v3) (.of main_v4) (id : (⟨S_, .i32⟩ : BufTy).Contents (Elt F) → (⟨S_, .i32⟩ : BufTy).Contents (Elt F)),
   TRef.unary (.of main_v4) (.of main_v5) (broadcastInDim S1 ![] bcast_S_S1 : (⟨S_, .i32⟩ : BufTy).Contents (Elt F) → (⟨S1, .i32⟩ : BufTy).Contents (Elt F)),
   TRef.binary (.of main_v2) (.of main_v5) (.of main_v6) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   TRef.nullary (.of main_cst) (constant S_ .f32 0x00000000#32),
   TRef.nullary (.of main_cst_2) (constant S_ .f32 0x3F800000#32)]

/-- What precedes the hash in the uniform draw: the bounds, the two key words, and the counter of every position. -/
def counterOps (arg0 : TRef sig ⟨S2, .i32⟩) (arg1 arg2 : TRef sig ⟨S_, .f32⟩) (φ : fn_uniform.Bufs) : Ops F :=
  [TRef.unary arg1 φ.v0 id,
   TRef.unary arg2 φ.v1 id,
   TRef.unary φ.v0 φ.v2 (broadcastInDim S1x1 ![] bcast_S_S1x1),
   TRef.unary φ.v1 φ.v3 (broadcastInDim S1x1 ![] bcast_S_S1x1),
   TRef.unary arg0 φ.v4 (extractStridedSlice S1 ![0] · slices_S2_S1_0),
   TRef.reshape φ.v4 φ.v5 (rfl : (.i32 : EltTy) = .i32) shapeCasts_S1_S_,
   TRef.unary arg0 φ.v6 (extractStridedSlice S1 ![1] · slices_S2_S1_1),
   TRef.reshape φ.v6 φ.v7 (rfl : (.i32 : EltTy) = .i32) shapeCasts_S1_S_,
   TRef.nullary φ.v8 (iotaInDim S64x100000 64 0),
   TRef.nullary φ.v9 (iotaInDim S64x100000 64 1),
   TRef.nullary φ.c (constantI S_ 64 100000#64),
   TRef.unary φ.c φ.v10 (broadcastInDim S64x100000 ![] bcast_S_S64x100000),
   TRef.binary φ.v10 φ.v8 φ.v11 muli,
   TRef.nullary φ.c_0 (constantI S_ 64 1#64),
   TRef.unary φ.c_0 φ.v12 (broadcastInDim S64x100000 ![] bcast_S_S64x100000),
   TRef.binary φ.v12 φ.v9 φ.v13 muli,
   TRef.binary φ.v11 φ.v13 φ.v14 addi,
   TRef.nullary φ.c_1 (constantI S_ 64 32#64),
   TRef.unary φ.c_1 φ.v15 (broadcastInDim S64x100000 ![] bcast_S_S64x100000),
   TRef.binary φ.v14 φ.v15 φ.v16 Host.shrui,
   TRef.unary φ.v14 φ.v17 (trunci 32 · natLt_32_64),
   TRef.unary φ.v16 φ.v18 (trunci 32 · natLt_32_64)]

/-- What follows it: the words as the significands of numbers between one and two, less one, scaled to the bounds. -/
def unitOps (φ : fn_uniform.Bufs) : Ops F :=
  [TRef.binary φ.call0.v171 φ.call0.v175 φ.v20 xori,
   TRef.nullary φ.c_2 (constantI S_ 32 9#32),
   TRef.unary φ.c_2 φ.v21 (broadcastInDim S64x100000 ![] bcast_S_S64x100000),
   TRef.binary φ.v20 φ.v21 φ.v22 Host.shrui,
   TRef.nullary φ.c_3 (constantI S_ 32 1065353216#32),
   TRef.unary φ.c_3 φ.v23 (broadcastInDim S64x100000 ![] bcast_S_S64x100000),
   TRef.binary φ.v22 φ.v23 φ.v24 ori,
   TRef.unary φ.v24 φ.v25 (bitcastToFloat .f32),
   TRef.nullary φ.cst (constant S_ .f32 0x3F800000#32),
   TRef.unary φ.cst φ.v26 (broadcastInDim S64x100000 ![] bcast_S_S64x100000),
   TRef.binary φ.v25 φ.v26 φ.v27 subf,
   TRef.binary φ.v3 φ.v2 φ.v28 subf,
   TRef.unary φ.v28 φ.v29 (broadcastInDim S64x100000 ![0, 1] bcast_S1x1_S64x100000_0_1),
   TRef.binary φ.v27 φ.v29 φ.v30 mulf,
   TRef.unary φ.v2 φ.v31 (broadcastInDim S64x100000 ![0, 1] bcast_S1x1_S64x100000_0_1),
   TRef.binary φ.v30 φ.v31 φ.v32 addf,
   TRef.unary φ.v2 φ.v33 (broadcastInDim S64x100000 ![0, 1] bcast_S1x1_S64x100000_0_1),
   TRef.binary φ.v33 φ.v32 φ.v34 maximumf]

/-- The Gumbel noise added to the logits. -/
def gumbelOps : Ops F :=
  [TRef.nullary (.of main_cst_3) (constant S_ .f32 0x00800000#32),
   TRef.unary (.of main_cst_3) (.of main_v8) (broadcastInDim S64x100000 ![] bcast_S_S64x100000 : (⟨S_, .f32⟩ : BufTy).Contents (Elt F) → (⟨S64x100000, .f32⟩ : BufTy).Contents (Elt F)),
   TRef.binary (.of main_v7) (.of main_v8) (.of main_v9) (maximumf : (⟨S64x100000, .f32⟩ : BufTy).Contents (Elt F) → (⟨S64x100000, .f32⟩ : BufTy).Contents (Elt F) → (⟨S64x100000, .f32⟩ : BufTy).Contents (Elt F)),
   TRef.unary (.of main_v9) (.of main_v10) (Host.log : (⟨S64x100000, .f32⟩ : BufTy).Contents (Elt F) → (⟨S64x100000, .f32⟩ : BufTy).Contents (Elt F)),
   TRef.unary (.of main_v10) (.of main_v11) (Host.negf : (⟨S64x100000, .f32⟩ : BufTy).Contents (Elt F) → (⟨S64x100000, .f32⟩ : BufTy).Contents (Elt F)),
   TRef.unary (.of main_v11) (.of main_v12) (Host.log : (⟨S64x100000, .f32⟩ : BufTy).Contents (Elt F) → (⟨S64x100000, .f32⟩ : BufTy).Contents (Elt F)),
   TRef.unary (.of main_v12) (.of main_v13) (Host.negf : (⟨S64x100000, .f32⟩ : BufTy).Contents (Elt F) → (⟨S64x100000, .f32⟩ : BufTy).Contents (Elt F)),
   TRef.binary (.of main_v13) (.of main_arg0) (.of main_v14) (addf : (⟨S64x100000, .f32⟩ : BufTy).Contents (Elt F) → (⟨S64x100000, .f32⟩ : BufTy).Contents (Elt F) → (⟨S64x100000, .f32⟩ : BufTy).Contents (Elt F))]

/-- The column of each row's largest value. -/
def argmaxOps (arg0 : TRef sig ⟨S64x100000, .f32⟩) (φ : fn_argmax.Bufs) : Ops F :=
  [TRef.nullary φ.v0 (iotaInDim S64x100000 32 1),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S64x100000_S64_d1 h_S_ j).1),
   TRef.quaternary arg0 φ.v0 φ.cst φ.c φ.v1_1 (fun x y u v j => (Host.argReduce reducer_argmax_f32_i32 x y u v reducesTo_S64x100000_S64_d1 h_S_ j).2)]

/-- The uniform draw. -/
def uniformOps (arg0 : TRef sig ⟨S2, .i32⟩) (arg1 arg2 : TRef sig ⟨S_, .f32⟩) (φ : fn_uniform.Bufs) : Ops F :=
  counterOps arg0 arg1 arg2 φ ++ threefryOps φ.v5 φ.v7 φ.v18 φ.v17 φ.call0 ++ unitOps φ

/-- The whole program. -/
def ops : Ops F :=
  keyOps ++ (uniformOps (.of main_v6) (.of main_cst) (.of main_cst_2) main_call0 ++
    (gumbelOps ++ argmaxOps (.of main_v14) main_call1))

theorem uniform_isSeq (arg0 : TRef sig ⟨S2, .i32⟩) (arg1 arg2 : TRef sig ⟨S_, .f32⟩) (φ : fn_uniform.Bufs) :
    IsSeq (fn_uniform.body (F := F) arg0 arg1 arg2 φ) (uniformOps arg0 arg1 arg2 φ) := by
  apply isSeq_of
  · unfold fn_uniform.body
    iterate 22 apply IsSeq.cons
    apply isSeq_append (threefry_isSeq _ _ _ _ _)
    iterate 18 apply IsSeq.cons
    exact IsSeq.nil
  · rfl

theorem argmax_isSeq (arg0 : TRef sig ⟨S64x100000, .f32⟩) (φ : fn_argmax.Bufs) :
    IsSeq (fn_argmax.body (F := F) arg0 φ) (argmaxOps arg0 φ) := by
  unfold fn_argmax.body
  iterate 5 apply IsSeq.cons
  exact IsSeq.nil

/-- The program is the line of its operations. -/
theorem main_isSeq (d : Dev nD) : IsSeq (main (F := F) d) ops := by
  apply isSeq_of
  · unfold main
    iterate 12 apply IsSeq.cons
    apply isSeq_append (uniform_isSeq _ _ _ _)
    iterate 8 apply IsSeq.cons
    exact isSeq_append (argmax_isSeq _ _) IsSeq.nil
  · rfl

/-! ## Every operation writes a new buffer -/

theorem ssa_round {r r' : BitVec 32} {x0 x1 y0 : Arr} {c : Sca} {b s : Arr} {c' : Sca} {b' s' o y1 : Arr} {n : ℕ}
    (h : rk x0.ref < n ∧ rk x1.ref < n ∧ rk y0.ref = n ∧ rk c.ref = n + 1 ∧ rk b.ref = n + 2 ∧ rk s.ref = n + 3 ∧
      rk c'.ref = n + 4 ∧ rk b'.ref = n + 5 ∧ rk s'.ref = n + 6 ∧ rk o.ref = n + 7 ∧ rk y1.ref = n + 8) :
    Ssa n (roundOps (F := F) r r' x0 x1 y0 c b s c' b' s' o y1) := by
  obtain ⟨h0, h1, h2, h3, h4, h5, h6, h7, h8, h9, h10⟩ := h
  exact ⟨step_binary _ _ _ _ _ _ _ h2 h0 h1, step_nullary _ _ _ h3, step_unary _ _ _ _ _ h4 (by omega),
    step_binary _ _ _ _ _ _ _ h5 (by omega) (by omega), step_nullary _ _ _ h6, step_unary _ _ _ _ _ h7 (by omega),
    step_binary _ _ _ _ _ _ _ h8 (by omega) (by omega), step_binary _ _ _ _ _ _ _ h9 (by omega) (by omega),
    step_binary _ _ _ _ _ _ _ h10 (by omega) (by omega), trivial⟩

theorem ssa_inject {w : BitVec 32} {k k' : Sca} {x0 x1 b y0 b' t : Arr} {c : Sca} {b'' y1 : Arr} {n : ℕ}
    (h : rk k.ref < n ∧ rk k'.ref < n ∧ rk x0.ref < n ∧ rk x1.ref < n ∧ rk b.ref = n ∧ rk y0.ref = n + 1 ∧
      rk b'.ref = n + 2 ∧ rk t.ref = n + 3 ∧ rk c.ref = n + 4 ∧ rk b''.ref = n + 5 ∧ rk y1.ref = n + 6) :
    Ssa n (injectOps (F := F) w k k' x0 x1 b y0 b' t c b'' y1) := by
  obtain ⟨h0, h1, h2, h3, h4, h5, h6, h7, h8, h9, h10⟩ := h
  exact ⟨step_unary _ _ _ _ _ h4 h0, step_binary _ _ _ _ _ _ _ h5 (by omega) (by omega),
    step_unary _ _ _ _ _ h6 (by omega), step_binary _ _ _ _ _ _ _ h7 (by omega) (by omega), step_nullary _ _ _ h8,
    step_unary _ _ _ _ _ h9 (by omega), step_binary _ _ _ _ _ _ _ h10 (by omega) (by omega), trivial⟩

theorem ssa_group1 : Ssa 42 (groupOps1 (F := F) main_call0.v5 main_call0.v7 main_call0.call0) :=
  ssa_append (ssa_append (ssa_append (ssa_append (ssa_round (by decide)) (ssa_round (n := 51) (by decide)) rfl)
    (ssa_round (n := 60) (by decide)) rfl) (ssa_round (n := 69) (by decide)) rfl) (ssa_inject (n := 78) (by decide)) rfl

theorem ssa_group2 : Ssa 85 (groupOps2 (F := F) main_call0.v5 main_call0.v7 main_call0.call0) :=
  ssa_append (ssa_append (ssa_append (ssa_append (ssa_round (by decide)) (ssa_round (n := 94) (by decide)) rfl)
    (ssa_round (n := 103) (by decide)) rfl) (ssa_round (n := 112) (by decide)) rfl) (ssa_inject (n := 121) (by decide)) rfl

theorem ssa_group3 : Ssa 128 (groupOps3 (F := F) main_call0.v5 main_call0.v7 main_call0.call0) :=
  ssa_append (ssa_append (ssa_append (ssa_append (ssa_round (by decide)) (ssa_round (n := 137) (by decide)) rfl)
    (ssa_round (n := 146) (by decide)) rfl) (ssa_round (n := 155) (by decide)) rfl) (ssa_inject (n := 164) (by decide)) rfl

theorem ssa_group4 : Ssa 171 (groupOps4 (F := F) main_call0.v5 main_call0.v7 main_call0.call0) :=
  ssa_append (ssa_append (ssa_append (ssa_append (ssa_round (by decide)) (ssa_round (n := 180) (by decide)) rfl)
    (ssa_round (n := 189) (by decide)) rfl) (ssa_round (n := 198) (by decide)) rfl) (ssa_inject (n := 207) (by decide)) rfl

theorem ssa_group5 : Ssa 214 (groupOps5 (F := F) main_call0.v5 main_call0.v7 main_call0.call0) :=
  ssa_append (ssa_append (ssa_append (ssa_append (ssa_round (by decide)) (ssa_round (n := 223) (by decide)) rfl)
    (ssa_round (n := 232) (by decide)) rfl) (ssa_round (n := 241) (by decide)) rfl) (ssa_inject (n := 250) (by decide)) rfl

theorem ssa_start : Ssa 35 (startOps main_call0.v5 main_call0.v7 main_call0.v18 main_call0.v17 main_call0.call0 : Ops F) :=
  ⟨step_binary _ _ _ _ _ _ _ rfl (by decide) (by decide),
   step_nullary _ _ _ rfl,
   step_binary _ _ _ _ _ _ _ rfl (by decide) (by decide),
   step_unary _ _ _ _ _ rfl (by decide),
   step_binary _ _ _ _ _ _ _ rfl (by decide) (by decide),
   step_unary _ _ _ _ _ rfl (by decide),
   step_binary _ _ _ _ _ _ _ rfl (by decide) (by decide), trivial⟩

theorem ssa_key : Ssa 1 (keyOps : Ops F) :=
  ⟨step_nullary _ _ _ rfl,
   step_nullary _ _ _ rfl,
   step_binary _ _ _ _ _ _ _ rfl (by decide) (by decide),
   step_unary _ _ _ _ _ rfl (by decide),
   step_unary _ _ _ _ _ rfl (by decide),
   step_nullary _ _ _ rfl,
   step_binary _ _ _ _ _ _ _ rfl (by decide) (by decide),
   step_unary _ _ _ _ _ rfl (by decide),
   step_unary _ _ _ _ _ rfl (by decide),
   step_binary _ _ _ _ _ _ _ rfl (by decide) (by decide),
   step_nullary _ _ _ rfl,
   step_nullary _ _ _ rfl, trivial⟩

theorem ssa_counter : Ssa 13 (counterOps (.of main_v6) (.of main_cst) (.of main_cst_2) main_call0 : Ops F) :=
  ⟨step_unary _ _ _ _ _ rfl (by decide),
   step_unary _ _ _ _ _ rfl (by decide),
   step_unary _ _ _ _ _ rfl (by decide),
   step_unary _ _ _ _ _ rfl (by decide),
   step_unary _ _ _ _ _ rfl (by decide),
   step_reshape _ _ _ _ _ _ rfl (by decide),
   step_unary _ _ _ _ _ rfl (by decide),
   step_reshape _ _ _ _ _ _ rfl (by decide),
   step_nullary _ _ _ rfl,
   step_nullary _ _ _ rfl,
   step_nullary _ _ _ rfl,
   step_unary _ _ _ _ _ rfl (by decide),
   step_binary _ _ _ _ _ _ _ rfl (by decide) (by decide),
   step_nullary _ _ _ rfl,
   step_unary _ _ _ _ _ rfl (by decide),
   step_binary _ _ _ _ _ _ _ rfl (by decide) (by decide),
   step_binary _ _ _ _ _ _ _ rfl (by decide) (by decide),
   step_nullary _ _ _ rfl,
   step_unary _ _ _ _ _ rfl (by decide),
   step_binary _ _ _ _ _ _ _ rfl (by decide) (by decide),
   step_unary _ _ _ _ _ rfl (by decide),
   step_unary _ _ _ _ _ rfl (by decide), trivial⟩

theorem ssa_unit : Ssa 257 (unitOps main_call0 : Ops F) :=
  ⟨step_binary _ _ _ _ _ _ _ rfl (by decide) (by decide),
   step_nullary _ _ _ rfl,
   step_unary _ _ _ _ _ rfl (by decide),
   step_binary _ _ _ _ _ _ _ rfl (by decide) (by decide),
   step_nullary _ _ _ rfl,
   step_unary _ _ _ _ _ rfl (by decide),
   step_binary _ _ _ _ _ _ _ rfl (by decide) (by decide),
   step_unary _ _ _ _ _ rfl (by decide),
   step_nullary _ _ _ rfl,
   step_unary _ _ _ _ _ rfl (by decide),
   step_binary _ _ _ _ _ _ _ rfl (by decide) (by decide),
   step_binary _ _ _ _ _ _ _ rfl (by decide) (by decide),
   step_unary _ _ _ _ _ rfl (by decide),
   step_binary _ _ _ _ _ _ _ rfl (by decide) (by decide),
   step_unary _ _ _ _ _ rfl (by decide),
   step_binary _ _ _ _ _ _ _ rfl (by decide) (by decide),
   step_unary _ _ _ _ _ rfl (by decide),
   step_binary _ _ _ _ _ _ _ rfl (by decide) (by decide), trivial⟩

theorem ssa_gumbel : Ssa 275 (gumbelOps : Ops F) :=
  ⟨step_nullary _ _ _ rfl,
   step_unary _ _ _ _ _ rfl (by decide),
   step_binary _ _ _ _ _ _ _ rfl (by decide) (by decide),
   step_unary _ _ _ _ _ rfl (by decide),
   step_unary _ _ _ _ _ rfl (by decide),
   step_unary _ _ _ _ _ rfl (by decide),
   step_unary _ _ _ _ _ rfl (by decide),
   step_binary _ _ _ _ _ _ _ rfl (by decide) (by decide), trivial⟩

theorem ssa_argmax : Ssa 283 (argmaxOps (.of main_v14) main_call1 : Ops F) :=
  ⟨step_nullary _ _ _ rfl,
   step_nullary _ _ _ rfl,
   step_nullary _ _ _ rfl,
   step_quaternary _ _ _ _ _ _ _ _ _ _ _ rfl (by decide) (by decide) (by decide) (by decide),
   step_quaternary _ _ _ _ _ _ _ _ _ _ _ rfl (by decide) (by decide) (by decide) (by decide), trivial⟩

/-- The program's operations write the buffers from 1 on in turn. -/
theorem ssa_ops : Ssa 1 (ops : Ops F) :=
  ssa_append ssa_key (ssa_append (ssa_append (ssa_append ssa_counter
      (ssa_append (ssa_append (ssa_append (ssa_append (ssa_append ssa_start ssa_group1 rfl) ssa_group2 rfl) ssa_group3 rfl)
        ssa_group4 rfl) ssa_group5 rfl) rfl) ssa_unit rfl)
    (ssa_append ssa_gumbel ssa_argmax rfl) rfl) rfl

/-! ## The run -/

/-- The contents the program ends with, from the launch contents of device `d`. -/
def final (m : (ℓ : Loc nD τ sig) → Buf (Elt F) ℓ) (d : Dev nD) : Valuation τ sig (Elt F) := after ops (launchContents m d)

/-- Every operation of the program leaves them as they are. -/
theorem fixes_final (m : (ℓ : Loc nD τ sig) → Buf (Elt F) ℓ) (d : Dev nD) : Fixes (final m d) ops := fixes_after ssa_ops _

/-- The argument is not written. -/
theorem final_arg0 (m : (ℓ : Loc nD τ sig) → Buf (Elt F) ℓ) (d : Dev nD) :
    final m d (Proc.devRef .tc main_arg0) = m ((d.tc : Thread nD τ).loc main_arg0) :=
  after_below ssa_ops _ (by decide)

/-- The run of the reference, for any float values: every buffer at the final contents, every semaphore at zero. -/
theorem run_ref (m : (ℓ : Loc nD τ sig) → Buf (Elt F) ℓ) (ρ : Dev nD → PrngReg) :
    θ_run defs (onTc (τ := τ) (main (F := F))) ⟨m, fun _ => 0, ρ⟩ (fun r =>
      (∀ (d : Dev nD) (b : Ref sig .tc), r.2.mem ((d.tc : Thread nD τ).loc b) = final m d (Proc.devRef .tc b)) ∧
      r.2.sem = fun _ => 0) :=
  θ_run_mono (run_hlo defs main main_isSeq (by decide) (by decide)
      (ssa_forall ssa_ops).1 (ssa_forall ssa_ops).2 m ρ)
    (fun r h => ⟨h, sem_eq_zero_of_no_sems rfl _⟩)

end Cert.RefRun
-- ==== Proof.Frames.lean ====
/-
  The three frames: each program runs to the end, leaves its argument unchanged and every semaphore at zero. Each is
  the program's run with the values dropped; the kernel read over the 32-bit words has the same text as the kernel
  read over the extended reals, so its frame is the same run at the words.
-/
module

public import proofs.«01_k».proof.Defs
public import proofs.«01_k».proof.Proof.Run
public import proofs.«01_k».proof.Proof.RefOps
public import proofs.«01_k».proof.Proof.Gen.Kernel

@[expose] public section

namespace Cert.Frames

open Idealize.ShloMosaic Idealize.SL.Sem

/-- The kernel, for any float values. -/
theorem frame_any {F : FTy → Type} [FloatOps F]
    (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩
      (fun r => (∀ c : Dev KernelIdeal.nD, r.2.mem ((c.tc : Thread KernelIdeal.nD KernelIdeal.τ).loc KernelIdeal.main_arg0)
        = m ((c.tc : Thread KernelIdeal.nD KernelIdeal.τ).loc KernelIdeal.main_arg0)) ∧ r.2.sem = fun _ => 0) :=
  (θ_run KernelIdeal.defs _ _).mono (fun _ h => ⟨fun c => (h.1 c).2, h.2⟩) (Sampler.run_main m ρ)

/-- The two readings of the kernel have the same body table. -/
theorem defs₀_eq : Kernel.defs₀ (F := Bits) = KernelIdeal.defs₀ (F := Bits) := by
  unfold Kernel.defs₀ KernelIdeal.defs₀
  refine congrArg Defs.onTc (funext fun l => funext fun a => ?_)
  match l, a with
  | 0, (t, s) => rfl

/-- And so the same procedures. -/
theorem defs_eq : Kernel.defs (F := Bits) = KernelIdeal.defs (F := Bits) := congrArg (Pipeline.defs _) defs₀_eq

/-- The kernel over the 32-bit words. -/
theorem frame_kernel : Cert.quiescent_Kernel := fun m ρ _ =>
  Eq.mpr (congrArg (fun d => θ_run d (onTc (τ := Kernel.τ) (Kernel.main (F := Bits))) ⟨m, fun _ => 0, ρ⟩ _) defs_eq)
    (frame_any (F := Bits) m ρ)

/-- The kernel over the extended reals. -/
theorem frame_kernelIdeal : Cert.quiescent_KernelIdeal := fun m ρ _ => frame_any (F := Ideal) m ρ

/-- The reference over the extended reals. -/
theorem frame_referenceIdeal : Cert.quiescent_ReferenceIdeal := fun m ρ _ =>
  (θ_run Cert.ReferenceIdeal.defs _ _).mono
    (fun _ h => ⟨fun c => (h.1 c Cert.ReferenceIdeal.main_arg0).trans (RefRun.final_arg0 m c), h.2⟩) (RefRun.run_ref (F := Ideal) m ρ)

end Cert.Frames
-- ==== Proof.Blocks.lean ====
/-
  The blocks of logits the kernel fetches, as logits.
-/
module

public import proofs.«01_k».proof.Proof.Run
public import Idealize.ShloMosaic.Lib.ValueIdxCore

@[expose] public section

noncomputable section

namespace Cert.Sampler

open Cert.KernelIdeal Cert.KernelIdeal.Gen
open Idealize.ShloMosaic Idealize.ShloMosaic.TcCoe Idealize.SL.Sem
open Idealize.ShloMosaic.Pipeline (Window)

variable {F : FTy → Type} [FloatOps F] (m : (ℓ : Loc nD τ sig) → Buf (Elt F) ℓ)

/-- The logits, by row and column. -/
def logit (c : Dev nD) (i : Fin 64) (k : Fin 100000) : F .f32 :=
  (m ((c.tc : Thread nD τ).loc main_arg0) : S64x100000.Idx → F .f32) (ValueIdx.ix2 i k)

/-- Block `t` starts at row zero and is the `t`-th across. -/
theorem index_val : ∀ t : Fin cfg0.N, win0_0.index t 0 = 0 ∧ win0_0.index t 1 = t.val := by decide +kernel

/-- A position of block `t` inside the array holds the logit of its row and of its column counted across the blocks. -/
theorem xblk_apply (c : Dev nD) (t : Fin cfg0.N) (j : S64x2048.Idx) (hj : t.val * 2048 + (j 1).val < 100000) :
    xblk m c t j = logit m c (j 0) ⟨t.val * 2048 + (j 1).val, hj⟩ := by
  have h := xsize_val t
  have hm : win0_0.moved (grid0.coords t) j = true := (win0_0.moved_iff _ _).mpr fun a => by
    have h0 : (j 0).val < 64 := (j 0).isLt
    have h1 : (j 1).val < 2048 := (j 1).isLt
    match a with
    | ⟨0, _⟩ => show (j 0).val < win0_0.xsize (grid0.coords t) 0; omega
    | ⟨1, _⟩ => show (j 1).val < win0_0.xsize (grid0.coords t) 1; omega
  unfold xblk Window.fill logit
  rw [dif_pos hm]
  show (m ((c.tc : Thread nD τ).loc main_arg0) : S64x100000.Idx → F .f32) ((win0_0.blk t).view.emb _) = _
  refine congrArg (m ((c.tc : Thread nD τ).loc main_arg0) : S64x100000.Idx → F .f32) (funext fun a => Fin.ext ?_)
  blk_simp
  have hi := index_val t
  match a with
  | ⟨0, _⟩ =>
    show win0_0.index t 0 * 64 + (j 0).val = (j 0).val
    omega
  | ⟨1, _⟩ =>
    show win0_0.index t 1 * 2048 + (j 1).val = t.val * 2048 + (j 1).val
    omega

end Cert.Sampler
-- ==== Proof.Hash.lean ====
/-
  The counter-based hash of the random bits, one word at a time: the rounds, the key injections between them and the
  whole hash of a counter. Neither program is mentioned here; both are shown elsewhere to compute this.
-/
module

public import Idealize.ShloMosaic.PureOps

@[expose] public section

namespace Cert.Hash

open Idealize.ShloMosaic

/-- A counter or a state of the hash: two 32-bit words. -/
abbrev Pair := BitVec 32 × BitVec 32

/-- One round: the second word is added into the first, rotated left by `r` (`r'` is `32 - r`) and combined with the
    sum by exclusive or. -/
def mix (r r' : BitVec 32) (p : Pair) : Pair := (p.1 + p.2, (p.1 + p.2) ^^^ (p.2 <<< r ||| p.2 >>> r'))

/-- A key injection: one key word added to each half, and the number `n` of the injection to the second half. -/
def inject (n k k' : BitVec 32) (p : Pair) : Pair := (p.1 + k, p.2 + k' + n)

/-- The four rounds of the odd groups. -/
def mixA (p : Pair) : Pair := mix 6#32 26#32 (mix 26#32 6#32 (mix 15#32 17#32 (mix 13#32 19#32 p)))

/-- The four rounds of the even groups. -/
def mixB (p : Pair) : Pair := mix 24#32 8#32 (mix 16#32 16#32 (mix 29#32 3#32 (mix 17#32 15#32 p)))

/-- The third key word: the exclusive or of the two of the key and a fixed word. -/
def third (k k' : BitVec 32) : BitVec 32 := k ^^^ k' ^^^ 466688986#32

/-- The hash of the counter `p` under the key `(k, k')`. -/
def threefry (k k' : BitVec 32) (p : Pair) : Pair :=
  inject 5#32 (third k k') k (mixA (inject 4#32 k' (third k k') (mixB (inject 3#32 k k' (mixA
    (inject 2#32 (third k k') k (mixB (inject 1#32 k' (third k k') (mixA (p.1 + k, p.2 + k'))))))))))

/-- The random word of position `n` under the seed 42: the exclusive or of the two halves of the hash of the counter
    `(0, n)` under the key `(0, 42)`. -/
def word (n : BitVec 32) : BitVec 32 := (threefry 0#32 42#32 (0#32, n)).1 ^^^ (threefry 0#32 42#32 (0#32, n)).2

/-- The word of a row and a column: the position of the logit in the array read row by row. -/
def position (i k : Nat) : BitVec 32 := BitVec.ofNat 32 i * 100000#32 + BitVec.ofNat 32 k

/-- A shift to the left by an amount below the width, on either unit. -/
theorem shli_eq (u : ArithUnit) (x r : BitVec 32) (h : r.toNat < 32) : IntOp.shli u x r = x <<< r := if_pos h

/-- A shift to the right by an amount below the width, on either unit. -/
theorem shrui_eq (u : ArithUnit) (x r : BitVec 32) (h : r.toNat < 32) : IntOp.shrui u x r = x >>> r := if_pos h

end Cert.Hash
-- ==== Proof.BlockHash.lean ====
/-
  The random bits of one block of the kernel, as vectors: the hash's rounds over a whole block, that the three kinds of
  grid point compute the same chain of them, and what the chain holds at a lane.
-/
module

public import proofs.«01_k».proof.Proof.Hash
public import proofs.«01_k».proof.Proof.Body

@[expose] public section

noncomputable section

namespace Cert.Sampler

open Cert.KernelIdeal Cert.KernelIdeal.Gen Cert.Hash
open Idealize.ShloMosaic Idealize.ShloMosaic.TcCoe

variable {F : FTy → Type} [FloatOps F]

/-- A block of words. -/
abbrev Words := IVec S64x2048 32

/-- A block of one word. -/
abbrev all (w : BitVec 32) : Words := broadcast S64x2048 w

/-- A block rotated left by `r` (`r'` is `32 - r`) and combined with the block `s` by exclusive or. -/
def turned (r r' : BitVec 32) (s x : Words) : Words := xori s (ori (shli x (all r)) (shrui x (all r')))

/-- One round over a block. -/
def rounds (r r' : BitVec 32) (p : Words × Words) : Words × Words := (addi p.1 p.2, turned r r' (addi p.1 p.2) p.2)

/-- One key injection over a block, the injection's number already added to the second half's key word. -/
def keyed (k k' : BitVec 32) (p : Words × Words) : Words × Words := (addi p.1 (all k), addi p.2 (all k'))

/-- The state after the first round, from the second half of a counter whose first half is zero. -/
def start (b : Words) : Words × Words := (b, turned 13#32 19#32 b b)

/-- The hash after its first injection, from the state after its first round. -/
def group1 (p : Words × Words) : Words × Words := keyed 42#32 466689009#32 (rounds 6#32 26#32 (rounds 26#32 6#32 (rounds 15#32 17#32 p)))
/-- The second group of rounds and its injection. -/
def group2 (p : Words × Words) : Words × Words :=
  keyed 466689008#32 2#32 (rounds 24#32 8#32 (rounds 16#32 16#32 (rounds 29#32 3#32 (rounds 17#32 15#32 p))))
/-- The third. -/
def group3 (p : Words × Words) : Words × Words :=
  keyed 0#32 45#32 (rounds 6#32 26#32 (rounds 26#32 6#32 (rounds 15#32 17#32 (rounds 13#32 19#32 p))))
/-- The fourth. -/
def group4 (p : Words × Words) : Words × Words :=
  keyed 42#32 466689012#32 (rounds 24#32 8#32 (rounds 16#32 16#32 (rounds 29#32 3#32 (rounds 17#32 15#32 p))))
/-- The fifth. -/
def group5 (p : Words × Words) : Words × Words :=
  keyed 466689008#32 5#32 (rounds 6#32 26#32 (rounds 26#32 6#32 (rounds 15#32 17#32 (rounds 13#32 19#32 p))))

/-- The hash over a block of counters, the key already added. -/
def hashed (b : Words) : Words × Words := group5 (group4 (group3 (group2 (group1 (start b)))))

/-- Numbers between zero and one from the two halves of the hash. -/
def fractions (p : Words × Words) : FVec F S64x2048 .f32 :=
  subf (bitcastToFloat .f32 (ori (shrui (xori p.1 p.2) (all 9#32)) (all 1065353216#32)))
    (broadcast S64x2048 (Scalar.ofBits .f32 0x3F800000#32))

/-- The logarithm of the exponential variate of such numbers. -/
def logs (u : FVec F S64x2048 .f32) : FVec F S64x2048 .f32 :=
  log (subf (broadcast S64x2048 (Scalar.ofBits .f32 0x00000000#32))
    (log (maximumf u (broadcast S64x2048 (Scalar.ofBits .f32 0x00800000#32)))))

/-- The scores of a block with logits `X`, from its counters. -/
def scores (b : Words) (X : Vec F S64x2048 .f32) : FVec F S64x2048 .f32 :=
  addf (subf (broadcast S64x2048 (Scalar.ofBits .f32 0x00000000#32)) (logs (fractions (hashed b)))) X

/-- A block cast to its own shape is itself. -/
theorem cast_self {α : Type} (x : S64x2048.Idx → α) (h) : shapeCast S64x2048 x h = x :=
  funext fun j => congrArg x (by rw [Shape.reshapeEquiv_self])

/-! ## The first block -/

theorem first_a : (k0_pay7, k0_pay9) = start k0_pay7 := rfl
theorem first_b : (k0_pay10, k0_pay11) = rounds 15#32 17#32 (k0_pay7, k0_pay9) := rfl
theorem first_c : (k0_pay12, k0_pay13) = rounds 26#32 6#32 (k0_pay10, k0_pay11) := rfl
theorem first_d : (addi k0_pay14 (all 42#32), k0_pay15) = keyed 42#32 466689009#32 (rounds 6#32 26#32 (k0_pay12, k0_pay13)) := rfl

theorem first_e (x y : Words) : (addi x y, k0_pay17 y (addi x y)) = rounds 17#32 15#32 (x, y) := rfl
theorem first_f (y s : Words) : (k0_pay18 y s, k0_pay19 y s) = rounds 29#32 3#32 (s, k0_pay17 y s) := rfl
theorem first_g (y s : Words) : (k0_pay20 y s, k0_pay21 y s) = rounds 16#32 16#32 (k0_pay18 y s, k0_pay19 y s) := rfl
theorem first_h (y s : Words) : (addi (k0_pay22 y s) (all 466689008#32), k0_pay23 y s)
    = keyed 466689008#32 2#32 (rounds 24#32 8#32 (k0_pay20 y s, k0_pay21 y s)) := rfl
theorem first_i (y s : Words) : (k0_pay24 y s, k0_pay25 y s)
    = rounds 13#32 19#32 (addi (k0_pay22 y s) (all 466689008#32), k0_pay23 y s) := rfl
theorem first_j (y s : Words) : (k0_pay26 y s, k0_pay27 y s) = rounds 15#32 17#32 (k0_pay24 y s, k0_pay25 y s) := rfl
theorem first_k (y s : Words) : k0_pay28 y s = addi (k0_pay26 y s) (k0_pay27 y s) := rfl

theorem first_l (x y : Words) : (addi x y, k0_pay29 y (addi x y)) = rounds 26#32 6#32 (x, y) := rfl
theorem first_m (y s : Words) : (addi (k0_pay30 y s) (all 0#32), k0_pay31 y s)
    = keyed 0#32 45#32 (rounds 6#32 26#32 (s, k0_pay29 y s)) := rfl
theorem first_n (y s : Words) : (k0_pay32 y s, k0_pay33 y s)
    = rounds 17#32 15#32 (addi (k0_pay30 y s) (all 0#32), k0_pay31 y s) := rfl
theorem first_o (y s : Words) : (k0_pay34 y s, k0_pay35 y s) = rounds 29#32 3#32 (k0_pay32 y s, k0_pay33 y s) := rfl
theorem first_p (y s : Words) : (k0_pay36 y s, k0_pay37 y s) = rounds 16#32 16#32 (k0_pay34 y s, k0_pay35 y s) := rfl
theorem first_q (y s : Words) : (k0_pay38 y s, k0_pay39 y s) = rounds 24#32 8#32 (k0_pay36 y s, k0_pay37 y s) := rfl

theorem first_r (x y : Words) : (k0_pay40 x y 42#32 : FVec F S64x2048 .f32)
    = fractions (group5 (keyed 42#32 466689012#32 (x, y))) := rfl

/-- The chain up to the second part's end. -/
theorem first_second (x y : Words) :
    (k0_pay26 y (addi x y), k0_pay27 y (addi x y)) = rounds 15#32 17#32 (rounds 13#32 19#32 (group2 (x, y))) := by
  rw [first_j, first_i, first_h, first_g, first_f, first_e]; rfl

/-- The chain over the third part. -/
theorem first_third (x y : Words) : (k0_pay38 y (addi x y), k0_pay39 y (addi x y))
    = rounds 24#32 8#32 (rounds 16#32 16#32 (rounds 29#32 3#32 (rounds 17#32 15#32
        (keyed 0#32 45#32 (rounds 6#32 26#32 (rounds 26#32 6#32 (x, y))))))) := by
  rw [first_q, first_p, first_o, first_n, first_m, first_l]

/-- The first block's numbers between zero and one are those of the hash of its counters. -/
theorem first₁_eq : (first₁ : FVec F S64x2048 .f32) = fractions (hashed k0_pay7) := by
  have e1 : (addi k0_pay14 (all 42#32), k0_pay15) = group1 (start k0_pay7) := by
    rw [first_d, first_c, first_b, first_a]; rfl
  have s1 : k0_pay16 = addi (addi k0_pay14 (all 42#32)) k0_pay15 := rfl
  unfold first₁
  rw [first_r, s1, first_k, first_third, first_second, e1]
  rfl

/-- The first block's scores. -/
theorem firstVal_eq (X : Vec F S64x2048 .f32) : firstVal X = scores k0_pay7 X := by
  unfold firstVal scores
  rw [← first₁_eq]
  exact cast_self _ _

/-! ## A middle block -/

section Mid

variable (a : BitVec 32) (B : Vec F S64x2048 .i32) (x y : Words)

theorem mid_a : (k0_pay42 a B, k0_pay43 a B) = start (k0_pay42 a B) := rfl
theorem mid_b : (k0_pay44 a B, k0_pay45 a B) = rounds 15#32 17#32 (k0_pay42 a B, k0_pay43 a B) := rfl
theorem mid_c : (k0_pay46 a B, k0_pay47 a B) = rounds 26#32 6#32 (k0_pay44 a B, k0_pay45 a B) := rfl
theorem mid_d : (addi (k0_pay48 a B) (all 42#32), k0_pay49 a B)
    = keyed 42#32 466689009#32 (rounds 6#32 26#32 (k0_pay46 a B, k0_pay47 a B)) := rfl
theorem mid_e : (k0_pay50 a B, k0_pay51 a B) = rounds 17#32 15#32 (addi (k0_pay48 a B) (all 42#32), k0_pay49 a B) := rfl

theorem mid_f : (k0_pay52 x y, k0_pay53 x y) = rounds 29#32 3#32 (x, y) := rfl
theorem mid_g : (k0_pay54 x y, k0_pay55 x y) = rounds 16#32 16#32 (k0_pay52 x y, k0_pay53 x y) := rfl
theorem mid_h : (addi (k0_pay56 x y) (all 466689008#32), k0_pay57 x y)
    = keyed 466689008#32 2#32 (rounds 24#32 8#32 (k0_pay54 x y, k0_pay55 x y)) := rfl
theorem mid_i : (k0_pay58 x y, k0_pay59 x y) = rounds 13#32 19#32 (addi (k0_pay56 x y) (all 466689008#32), k0_pay57 x y) := rfl
theorem mid_j : (k0_pay60 x y, k0_pay61 x y) = rounds 15#32 17#32 (k0_pay58 x y, k0_pay59 x y) := rfl
theorem mid_k : (k0_pay62 x y, k0_pay63 x y) = rounds 26#32 6#32 (k0_pay60 x y, k0_pay61 x y) := rfl

theorem mid_l : (addi (k0_pay64 x y) (all 0#32), k0_pay65 x y) = keyed 0#32 45#32 (rounds 6#32 26#32 (x, y)) := rfl
theorem mid_m : (k0_pay66 x y, k0_pay67 x y) = rounds 17#32 15#32 (addi (k0_pay64 x y) (all 0#32), k0_pay65 x y) := rfl
theorem mid_n : (k0_pay68 x y, k0_pay69 x y) = rounds 29#32 3#32 (k0_pay66 x y, k0_pay67 x y) := rfl
theorem mid_o : (k0_pay70 x y, k0_pay71 x y) = rounds 16#32 16#32 (k0_pay68 x y, k0_pay69 x y) := rfl
theorem mid_p : (addi (k0_pay72 x y) (all 42#32), k0_pay73 x y)
    = keyed 42#32 466689012#32 (rounds 24#32 8#32 (k0_pay70 x y, k0_pay71 x y)) := rfl
theorem mid_q : k0_pay74 x y = addi (addi (k0_pay72 x y) (all 42#32)) (k0_pay73 x y) := rfl

theorem mid_r : (k0_pay76 y (addi x y) k0_pay75 : FVec F S64x2048 .f32) = logs (fractions (group5 (x, y))) := rfl

/-- The chain up to the first part's end. -/
theorem mid_first : (k0_pay50 a B, k0_pay51 a B) = rounds 17#32 15#32 (group1 (start (k0_pay42 a B))) := by
  rw [mid_e, mid_d, mid_c, mid_b, mid_a]; rfl

/-- The chain over the second part. -/
theorem mid_second : (k0_pay62 x y, k0_pay63 x y) = rounds 26#32 6#32 (rounds 15#32 17#32 (rounds 13#32 19#32
    (keyed 466689008#32 2#32 (rounds 24#32 8#32 (rounds 16#32 16#32 (rounds 29#32 3#32 (x, y))))))) := by
  rw [mid_k, mid_j, mid_i, mid_h, mid_g, mid_f]

/-- The chain over the third part. -/
theorem mid_third : (addi (k0_pay72 x y) (all 42#32), k0_pay73 x y)
    = group4 (keyed 0#32 45#32 (rounds 6#32 26#32 (x, y))) := by
  rw [mid_p, mid_o, mid_n, mid_m, mid_l]; rfl

/-- A middle block's noise, before its last sign change, from the hash of its counters. -/
theorem mid₁_eq : (mid₁ a B : FVec F S64x2048 .f32) = logs (fractions (hashed (k0_pay42 a B))) := by
  unfold mid₁
  rw [mid_q, mid_r, mid_third, mid_second, mid_first]
  rfl

/-- A middle block's scores. -/
theorem mid_scores (X : Vec F S64x2048 .f32) : k0_pay3 X (mid₁ a B) k0_pay77 = scores (k0_pay42 a B) X := by
  rw [mid₁_eq]; rfl

end Mid

/-! ## The last block -/

section Last

variable (a : BitVec 32) (B : Vec F S64x2048 .i32) (x z : Words)

theorem last_a : (k0_pay78 a B, k0_pay79 a B) = start (k0_pay78 a B) := rfl
theorem last_b : (k0_pay80 a B, k0_pay81 a B) = rounds 15#32 17#32 (k0_pay78 a B, k0_pay79 a B) := rfl
theorem last_c : (k0_pay82 a B, k0_pay83 a B) = rounds 26#32 6#32 (k0_pay80 a B, k0_pay81 a B) := rfl
theorem last_d : (addi (k0_pay84 a B) (all 42#32), k0_pay85 a B)
    = keyed 42#32 466689009#32 (rounds 6#32 26#32 (k0_pay82 a B, k0_pay83 a B)) := rfl
theorem last_e : (k0_pay86 a B, xori (k0_pay86 a B) (k0_pay87 a B))
    = rounds 17#32 15#32 (addi (k0_pay84 a B) (all 42#32), k0_pay85 a B) := rfl

theorem last_f : (k0_pay89 x z, k0_pay90 x z) = rounds 29#32 3#32 (x, xori x z) := rfl
theorem last_g : (k0_pay91 x z, k0_pay92 x z) = rounds 16#32 16#32 (k0_pay89 x z, k0_pay90 x z) := rfl
theorem last_h : (addi (k0_pay93 x z) (all 466689008#32), k0_pay94 x z)
    = keyed 466689008#32 2#32 (rounds 24#32 8#32 (k0_pay91 x z, k0_pay92 x z)) := rfl
theorem last_i : (k0_pay95 x z, k0_pay96 x z) = rounds 13#32 19#32 (addi (k0_pay93 x z) (all 466689008#32), k0_pay94 x z) := rfl
theorem last_j : (k0_pay97 x z, k0_pay98 x z) = rounds 15#32 17#32 (k0_pay95 x z, k0_pay96 x z) := rfl
theorem last_k : (k0_pay99 x z, xori (k0_pay99 x z) (k0_pay100 x z)) = rounds 26#32 6#32 (k0_pay97 x z, k0_pay98 x z) := rfl

theorem last_l : (addi (k0_pay102 x z) (all 0#32), k0_pay103 x z) = keyed 0#32 45#32 (rounds 6#32 26#32 (x, xori x z)) := rfl
theorem last_m : (k0_pay104 x z, k0_pay105 x z) = rounds 17#32 15#32 (addi (k0_pay102 x z) (all 0#32), k0_pay103 x z) := rfl
theorem last_n : (k0_pay106 x z, k0_pay107 x z) = rounds 29#32 3#32 (k0_pay104 x z, k0_pay105 x z) := rfl
theorem last_o : (k0_pay108 x z, k0_pay109 x z) = rounds 16#32 16#32 (k0_pay106 x z, k0_pay107 x z) := rfl
theorem last_p : (addi (k0_pay110 x z) (all 42#32), k0_pay111 x z)
    = keyed 42#32 466689012#32 (rounds 24#32 8#32 (k0_pay108 x z, k0_pay109 x z)) := rfl
theorem last_q : k0_pay112 x z = addi (addi (k0_pay110 x z) (all 42#32)) (k0_pay111 x z) := rfl

theorem last_r (y : Words) : (k0_pay113 y (addi x y) 13#32 : FVec F S64x2048 .f32) = logs (fractions (group5 (x, y))) := rfl

/-- The chain up to the first part's end. -/
theorem last_first : (k0_pay86 a B, xori (k0_pay86 a B) (k0_pay87 a B)) = rounds 17#32 15#32 (group1 (start (k0_pay78 a B))) := by
  rw [last_e, last_d, last_c, last_b, last_a]; rfl

/-- The chain over the second part. -/
theorem last_second : (k0_pay99 x z, xori (k0_pay99 x z) (k0_pay100 x z))
    = rounds 26#32 6#32 (rounds 15#32 17#32 (rounds 13#32 19#32 (keyed 466689008#32 2#32
        (rounds 24#32 8#32 (rounds 16#32 16#32 (rounds 29#32 3#32 (x, xori x z))))))) := by
  rw [last_k, last_j, last_i, last_h, last_g, last_f]

/-- The chain over the third part. -/
theorem last_third : (addi (k0_pay110 x z) (all 42#32), k0_pay111 x z)
    = group4 (keyed 0#32 45#32 (rounds 6#32 26#32 (x, xori x z))) := by
  rw [last_p, last_o, last_n, last_m, last_l]; rfl

/-- The last block's noise, before its last sign change, from the hash of its counters. -/
theorem last₁_eq : (last₁ a B : FVec F S64x2048 .f32) = logs (fractions (hashed (k0_pay78 a B))) := by
  unfold last₁
  rw [last_q, last_r, last_third, last_second, last_first]
  rfl

end Last

/-! ## At a lane -/

/-- The two words of a lane. -/
abbrev lane (p : Words × Words) (j : S64x2048.Idx) : Pair := (p.1 j, p.2 j)

theorem lane_rounds {r r' : BitVec 32} (hr : r.toNat < 32) (hr' : r'.toNat < 32) (p : Words × Words) (j : S64x2048.Idx) :
    lane (rounds r r' p) j = mix r r' (lane p j) := by
  have e : (rounds r r' p).2 j = (p.1 j + p.2 j) ^^^ (IntOp.shli .vector (p.2 j) r ||| IntOp.shrui .vector (p.2 j) r') := rfl
  unfold lane
  rw [e, shli_eq _ _ _ hr, shrui_eq _ _ _ hr']
  rfl

theorem lane_keyed {n k k' w : BitVec 32} (h : w = k' + n) (p : Words × Words) (j : S64x2048.Idx) :
    lane (keyed k w p) j = inject n k k' (lane p j) := by
  subst h
  have e : p.2 j + (k' + n) = p.2 j + k' + n := (BitVec.add_assoc _ _ _).symm
  exact congrArg (Prod.mk _) e

theorem lane_start (b : Words) (j : S64x2048.Idx) : lane (start b) j = mix 13#32 19#32 (0#32, b j) := by
  have e : (start b).2 j = b j ^^^ (IntOp.shli .vector (b j) 13#32 ||| IntOp.shrui .vector (b j) 19#32) := rfl
  unfold lane mix
  rw [e, shli_eq _ _ _ (by decide), shrui_eq _ _ _ (by decide), BitVec.zero_add]
  rfl

/-- The two words of a lane combined are the random word of the lane's counter. -/
theorem hashed_lane (b : Words) (j : S64x2048.Idx) (n : BitVec 32) (h : b j = n + 42#32) :
    xori (hashed b).1 (hashed b).2 j = Hash.word n := by
  have e : lane (hashed b) j = threefry 0#32 42#32 (0#32, n) := by
    unfold hashed group1 group2 group3 group4 group5 threefry mixA mixB
    rw [show third 0#32 42#32 = 466689008#32 by decide]
    rw [lane_keyed (n := 5#32) (k' := 0#32) (w := 5#32) (by decide), lane_rounds (by decide) (by decide), lane_rounds (by decide) (by decide),
      lane_rounds (by decide) (by decide), lane_rounds (by decide) (by decide),
      lane_keyed (n := 4#32) (k' := 466689008#32) (w := 466689012#32) (by decide), lane_rounds (by decide) (by decide), lane_rounds (by decide) (by decide),
      lane_rounds (by decide) (by decide), lane_rounds (by decide) (by decide),
      lane_keyed (n := 3#32) (k' := 42#32) (w := 45#32) (by decide), lane_rounds (by decide) (by decide), lane_rounds (by decide) (by decide),
      lane_rounds (by decide) (by decide), lane_rounds (by decide) (by decide),
      lane_keyed (n := 2#32) (k' := 0#32) (w := 2#32) (by decide), lane_rounds (by decide) (by decide), lane_rounds (by decide) (by decide),
      lane_rounds (by decide) (by decide), lane_rounds (by decide) (by decide),
      lane_keyed (n := 1#32) (k' := 466689008#32) (w := 466689009#32) (by decide), lane_rounds (by decide) (by decide), lane_rounds (by decide) (by decide),
      lane_rounds (by decide) (by decide), lane_start, h, BitVec.add_zero]
  have e' : ∀ p : Words × Words, xori p.1 p.2 j = (lane p j).1 ^^^ (lane p j).2 := fun _ => rfl
  rw [e', e]
  rfl

/-! ## The counters -/

theorem first_counter (j : S64x2048.Idx) : k0_pay7 j = position (j 0).val (j 1).val + 42#32 := by
  show BitVec.ofNat 32 (0 * 64 + (j 0).val) * 100000#32 + BitVec.ofNat 32 (0 * 2048 + (j 1).val) + 42#32 = _
  simp only [Nat.zero_mul, Nat.zero_add]
  rfl

/-- The stored counters are the first block's. -/
theorem stored_eq : k0_pay8 = k0_pay7 := cast_self _ _

theorem mid_counter (n : ℕ) (j : S64x2048.Idx) :
    k0_pay42 (F := F) (BitVec.ofNat 32 n) k0_pay8 j = position (j 0).val (n * 2048 + (j 1).val) + 42#32 := by
  rw [stored_eq]
  show k0_pay7 j + BitVec.ofNat 32 n * BitVec.ofNat 32 2048 = _
  rw [first_counter, position, position, Nat.add_comm (n * 2048), BitVec.ofNat_add, BitVec.ofNat_mul,
    ← BitVec.add_assoc, BitVec.add_assoc _ 42#32, BitVec.add_comm 42#32, ← BitVec.add_assoc]

theorem last_counter (n : ℕ) (j : S64x2048.Idx) :
    k0_pay78 (F := F) (BitVec.ofNat 32 n) k0_pay8 j = position (j 0).val (n * 2048 + (j 1).val) + 42#32 := mid_counter (F := F) n j

end Cert.Sampler
-- ==== Proof.Score.lean ====
/-
  What both programs compute of one logit, over the reals: the logit plus the noise of its position. And a row of these
  as a sequence, with −∞ past the row's end.
-/
module

public import proofs.«01_k».proof.Proof.Hash
public import Idealize.ShloMosaic.PureOps.Ideal.Laws
public import Idealize.ShloMosaic.Lib.IdealHost

@[expose] public section

noncomputable section

namespace Cert.Score

open Idealize.ShloMosaic Cert.Hash

/-- The least positive normal number of the format. -/
def tiny : EReal := Ideal.ofBits .f32 0x00800000#32

/-- The number between zero and one with the random word `w`'s upper bits as its digits. -/
def fraction (w : BitVec 32) : EReal := Ideal.ofBits .f32 (w >>> 9#32 ||| 1065353216#32) - 1

/-- The Gumbel variate of the random word `w`. -/
def noise (w : BitVec 32) : EReal := -Ideal.log (-Ideal.log (max (fraction w) tiny))

/-- The score of column `c` of row `i`, and −∞ past the row's end. -/
def row (X : Fin 64 → Fin 100000 → EReal) (i : Fin 64) (c : ℕ) : EReal :=
  if h : c < 100000 then noise (word (position i c)) + X i ⟨c, h⟩ else ⊥

theorem tiny_nonneg : 0 ≤ tiny := by
  unfold tiny
  simp [Ideal.ofBits, Ideal.ieee, -EReal.coe_mul]

theorem negInf : Ideal.ofBits .f32 0xFF800000#32 = ⊥ := by
  simp [Ideal.ofBits, Ideal.ieee, -EReal.coe_mul]

/-- Scaling to the unit interval and bounding below by zero do nothing under the bound by the least positive normal
    number. -/
theorem bounded (f : EReal) : max (max 0 (f * (1 - 0) + 0)) tiny = max f tiny := by
  rw [sub_zero, mul_one, add_zero, max_comm 0 f, max_assoc, max_eq_right tiny_nonneg]

end Cert.Score
-- ==== Proof.First.lean ====
/-
  The first place of a sequence's largest value: that it is one place only, that values of no effect past the end do not
  move it, and the two ways the programs find it. One way folds over pairs of a value and a place, keeping the better
  pair. The other keeps, for each residue of the places, the largest value so far and where it came from.
-/
module

public import Mathlib.Data.EReal.Basic
public import Mathlib.Data.List.Basic

@[expose] public section

namespace Cert.First

/-- Among the first `n` values of `f`, the largest stands first at `k`. -/
structure IsFirst (f : ℕ → EReal) (n k : ℕ) : Prop where
  lt : k < n
  le : ∀ c < n, f c ≤ f k
  before : ∀ c < k, f c < f k

theorem IsFirst.unique {f : ℕ → EReal} {n k k' : ℕ} (h : IsFirst f n k) (h' : IsFirst f n k') : k = k' := by
  rcases Nat.lt_trichotomy k k' with e | e | e
  · exact absurd (h'.before k e) (not_lt.mpr (h.le k' h'.lt))
  · exact e
  · exact absurd (h.before k' e) (not_lt.mpr (h'.le k h.lt))

/-- Values of −∞ past the end do not move the first largest. -/
theorem IsFirst.shorten {f : ℕ → EReal} {n n' k : ℕ} (h : IsFirst f n' k) (hn : 0 < n) (hnn : n ≤ n')
    (hf : ∀ c, n ≤ c → f c = ⊥) : IsFirst f n k := by
  refine ⟨?_, fun c hc => h.le c (hc.trans_le hnn), h.before⟩
  by_contra hk
  have h0 := h.before 0 (by omega)
  rw [hf k (by omega)] at h0
  exact not_lt_bot h0

/-! ## A fold over pairs -/

/-- The pair `r` is at least as good as `p`: a larger value, or the same at a place no later. -/
def Beats (r p : EReal × ℕ) : Prop := p.1 < r.1 ∨ p.1 = r.1 ∧ r.2 ≤ p.2

theorem Beats.refl (r : EReal × ℕ) : Beats r r := .inr ⟨rfl, le_refl _⟩

theorem Beats.trans {r p q : EReal × ℕ} (h : Beats r p) (h' : Beats p q) : Beats r q := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- The better of two pairs, the first if they are equally good. -/
noncomputable def better (a b : EReal × ℕ) : EReal × ℕ := if b.1 < a.1 ∨ a.1 = b.1 ∧ a.2 < b.2 then a else b

theorem better_beats (a b : EReal × ℕ) : (better a b = a ∨ better a b = b) ∧ Beats (better a b) a ∧ Beats (better a b) b := by
  unfold better
  split
  · next h =>
    refine ⟨.inl rfl, .refl _, ?_⟩
    rcases h with h | ⟨h, i⟩
    · exact .inl h
    · exact .inr ⟨h.symm, i.le⟩
  · next h =>
    refine ⟨.inr rfl, ?_, .refl _⟩
    rcases lt_trichotomy a.1 b.1 with e | e | e
    · exact .inl e
    · refine .inr ⟨e, ?_⟩
      by_contra hi
      exact h (.inr ⟨e, by omega⟩)
    · exact absurd (.inl e) h

/-- A fold that keeps the better pair ends with one of the pairs, as good as any. -/
theorem fold_better (l : List (EReal × ℕ)) (a : EReal × ℕ) :
    (l.foldl better a = a ∨ l.foldl better a ∈ l) ∧ Beats (l.foldl better a) a ∧ ∀ p ∈ l, Beats (l.foldl better a) p := by
  induction l generalizing a with
  | nil => exact ⟨.inl rfl, .refl _, fun _ h => absurd h List.not_mem_nil⟩
  | cons b l ih =>
    obtain ⟨h1, h2, h3⟩ := ih (better a b)
    obtain ⟨g1, g2, g3⟩ := better_beats a b
    refine ⟨?_, h2.trans g2, fun p hp => ?_⟩
    · rw [List.foldl_cons]
      rcases h1 with h1 | h1
      · rcases g1 with g1 | g1
        · exact .inl (h1.trans g1)
        · exact .inr (by rw [h1, g1]; exact List.mem_cons_self)
      · exact .inr (List.mem_cons_of_mem _ h1)
    · rcases List.mem_cons.mp hp with rfl | hp
      · exact h2.trans g3
      · exact h3 p hp

/-- Over the values of a sequence with their places, from −∞ at place zero, the fold ends at the first largest. -/
theorem fold_isFirst {f : ℕ → EReal} {n : ℕ} (hn : 0 < n) (l : List (EReal × ℕ)) (hl : ∀ p, p ∈ l ↔ ∃ c < n, p = (f c, c)) :
    IsFirst f n (l.foldl better (⊥, 0)).2 := by
  obtain ⟨h1, h2, h3⟩ := fold_better l (⊥, 0)
  have hall : ∀ c < n, Beats (l.foldl better (⊥, 0)) (f c, c) := fun c hc => h3 _ ((hl _).mpr ⟨c, hc, rfl⟩)
  obtain ⟨k, hk, e⟩ : ∃ k < n, l.foldl better (⊥, 0) = (f k, k) := by
    rcases h1 with h1 | h1
    · refine ⟨0, hn, h1.trans (Prod.ext ?_ rfl)⟩
      have h0 := hall 0 hn
      rw [h1] at h0
      rcases h0 with h0 | ⟨h0, -⟩
      · exact absurd h0 not_lt_bot
      · exact h0.symm
    · obtain ⟨c, hc, e⟩ := (hl _).mp h1
      exact ⟨c, hc, e⟩
  rw [e] at hall ⊢
  refine ⟨hk, fun c hc => ?_, fun c hc => ?_⟩
  · rcases hall c hc with h | ⟨h, -⟩
    · exact h.le
    · exact h.le
  · rcases hall c (Nat.lt_trans hc hk) with h | ⟨-, h⟩
    · exact h
    · exact absurd h (Nat.not_le.mpr hc)

/-! ## One residue of the places at a time -/

/-- The largest of the values of `f` at the places `l`, `w + l`, … up to `n * w + l`. -/
noncomputable def top (f : ℕ → EReal) (w l : ℕ) : ℕ → EReal
  | 0 => f (0 * w + l)
  | n + 1 => max (f ((n + 1) * w + l)) (top f w l n)

open Classical in
/-- Which of those it first stood at. -/
noncomputable def topAt (f : ℕ → EReal) (w l : ℕ) : ℕ → ℕ
  | 0 => 0
  | n + 1 => if top f w l n < f ((n + 1) * w + l) then n + 1 else topAt f w l n

open Classical in
theorem topAt_succ (f : ℕ → EReal) (w l n : ℕ) :
    topAt f w l (n + 1) = if top f w l n < f ((n + 1) * w + l) then n + 1 else topAt f w l n := rfl

theorem topAt_spec (f : ℕ → EReal) (w l n : ℕ) : topAt f w l n ≤ n ∧ f (topAt f w l n * w + l) = top f w l n ∧
    (∀ i ≤ n, f (i * w + l) ≤ top f w l n) ∧ ∀ i < topAt f w l n, f (i * w + l) < top f w l n := by
  induction n with
  | zero =>
    refine ⟨le_refl _, rfl, fun i hi => ?_, fun i hi => absurd hi (Nat.not_lt_zero _)⟩
    rw [Nat.le_zero.mp hi]
    exact le_refl _
  | succ n ih =>
    obtain ⟨h1, h2, h3, h4⟩ := ih
    rw [show top f w l (n + 1) = max (f ((n + 1) * w + l)) (top f w l n) from rfl, topAt]
    split
    · next h =>
      rw [max_eq_left h.le]
      refine ⟨le_refl _, rfl, fun i hi => ?_, fun i hi => (h3 i (by omega)).trans_lt h⟩
      rcases Nat.lt_or_ge i (n + 1) with e | e
      · exact (h3 i (by omega)).trans h.le
      · rw [Nat.le_antisymm hi e]
    · next h =>
      rw [max_eq_right (not_lt.mp h)]
      refine ⟨by omega, h2, fun i hi => ?_, h4⟩
      rcases Nat.lt_or_ge i (n + 1) with e | e
      · exact h3 i (by omega)
      · rw [Nat.le_antisymm hi e]
        exact not_lt.mp h

/-- The least, over the residues whose largest value is the largest of all, of the place it first stood at, is the
    first largest. -/
theorem residues_isFirst {f : ℕ → EReal} {w n k : ℕ} {M : EReal} (hM : ∀ l < w, top f w l n ≤ M)
    (hk : ∃ l < w, top f w l n = M ∧ k = topAt f w l n * w + l)
    (hmin : ∀ l < w, top f w l n = M → k ≤ topAt f w l n * w + l) : IsFirst f ((n + 1) * w) k := by
  obtain ⟨l, hl, hlM, rfl⟩ := hk
  obtain ⟨h1, h2, h3, h4⟩ := topAt_spec f w l n
  have hw : 0 < w := by omega
  have split_place : ∀ c < (n + 1) * w, c % w < w ∧ c / w ≤ n ∧ c / w * w + c % w = c := fun c hc =>
    ⟨Nat.mod_lt _ hw, Nat.lt_succ_iff.mp (Nat.div_lt_of_lt_mul (by rwa [Nat.mul_comm] at hc)), by
      rw [Nat.mul_comm]; exact Nat.div_add_mod c w⟩
  have hval : ∀ c < (n + 1) * w, f c ≤ M := fun c hc => by
    obtain ⟨e1, e2, e3⟩ := split_place c hc
    have := (topAt_spec f w (c % w) n).2.2.1 (c / w) e2
    rw [e3] at this
    exact this.trans (hM _ e1)
  have hlt : topAt f w l n * w + l < (n + 1) * w := by
    have := Nat.mul_le_mul_right w h1
    rw [Nat.add_mul, Nat.one_mul]
    omega
  refine ⟨hlt, fun c hc => ?_, fun c hc => ?_⟩
  · rw [h2, hlM]
    exact hval c hc
  · rw [h2, hlM]
    refine lt_of_le_of_ne (hval c (hc.trans hlt)) fun e => ?_
    obtain ⟨e1, e2, e3⟩ := split_place c (hc.trans hlt)
    obtain ⟨g1, g2, g3, g4⟩ := topAt_spec f w (c % w) n
    have ht : top f w (c % w) n = M := by
      refine le_antisymm (hM _ e1) ?_
      have := g3 (c / w) e2
      rwa [e3, e] at this
    have hge : topAt f w (c % w) n ≤ c / w := by
      by_contra hn
      have := g4 (c / w) (by omega)
      rw [e3, e, ht] at this
      exact lt_irrefl _ this
    have := hmin _ e1 ht
    have := Nat.mul_le_mul_right w hge
    omega

end Cert.First
-- ==== Proof.Running.lean ====
/-
  What the kernel's scratch holds over the reals: in every lane, the largest score of the lane's columns so far and the
  number of the block it first stood in.
-/
module

public import proofs.«01_k».proof.Proof.Blocks
public import proofs.«01_k».proof.Proof.BlockHash
public import proofs.«01_k».proof.Proof.Score
public import proofs.«01_k».proof.Proof.First

@[expose] public section

noncomputable section

namespace Cert.Sampler

open Cert.KernelIdeal Cert.KernelIdeal.Gen Cert.Hash Cert.Score Cert.First
open Idealize.ShloMosaic Idealize.ShloMosaic.TcCoe Idealize.SL.Sem

/-- The numbers between zero and one, lane by lane. -/
theorem fractions_lane (p : Words × Words) (j : S64x2048.Idx) (w : BitVec 32) (h : xori p.1 p.2 j = w) :
    (fractions p : FVec Ideal S64x2048 .f32) j = fraction w := by
  have e : ori (shrui (xori p.1 p.2) (all 9#32)) (all 1065353216#32) j = w >>> 9#32 ||| 1065353216#32 := by
    show IntOp.shrui .vector (xori p.1 p.2 j) 9#32 ||| 1065353216#32 = _
    rw [h, shrui_eq _ _ _ (by decide)]
  unfold fractions fraction
  show Ideal.ofBits .f32 (ori (shrui (xori p.1 p.2) (all 9#32)) (all 1065353216#32) j) - Ideal.ofBits .f32 0x3F800000#32 = _
  rw [e, Ideal.ofBits_one_f32]

/-- The noise, lane by lane, from the numbers between zero and one. -/
theorem logs_lane (u : S64x2048.Idx → EReal) (j : S64x2048.Idx) :
    (subf (broadcast S64x2048 (Scalar.ofBits .f32 0x00000000#32)) (logs (F := Ideal) u) : FVec Ideal S64x2048 .f32) j
      = -Ideal.log (-Ideal.log (max (u j) tiny)) := by
  unfold logs tiny
  show Ideal.ofBits .f32 0x00000000#32 - Ideal.log (Ideal.ofBits .f32 0x00000000#32 - Ideal.log (max (u j) (Ideal.ofBits .f32 0x00800000#32))) = _
  rw [Ideal.ofBits_zero_f32, zero_sub, zero_sub]

/-- The noise of a lane, from the lane's counter. -/
theorem noise_lane (b : Words) (j : S64x2048.Idx) (n : BitVec 32) (h : b j = n + 42#32) :
    (subf (broadcast S64x2048 (Scalar.ofBits .f32 0x00000000#32)) (logs (fractions (hashed b))) : FVec Ideal S64x2048 .f32) j = noise (Hash.word n) := by
  rw [logs_lane, fractions_lane _ j _ (hashed_lane b j n h), noise]

/-- A sum of two numbers, lane by lane. -/
theorem add_lane (V X : FVec Ideal S64x2048 .f32) (j : S64x2048.Idx) :
    (addf V X : S64x2048.Idx → EReal) j = (V : S64x2048.Idx → EReal) j + (X : S64x2048.Idx → EReal) j := rfl

/-- The score of a lane. -/
theorem scores_lane (b : Words) (X : S64x2048.Idx → EReal) (j : S64x2048.Idx) (n : BitVec 32) (h : b j = n + 42#32) :
    (scores (F := Ideal) b X : S64x2048.Idx → EReal) j = noise (Hash.word n) + X j :=
  (add_lane _ X j).trans (congrArg (· + X j) (noise_lane b j n h))

/-- The larger of two numbers, lane by lane. -/
theorem max_lane (V A : FVec Ideal S64x2048 .f32) (j : S64x2048.Idx) :
    (maximumf V A : S64x2048.Idx → EReal) j = max ((V : S64x2048.Idx → EReal) j) ((A : S64x2048.Idx → EReal) j) := rfl

/-- The choice by which of two numbers is larger, lane by lane. -/
theorem choose_lane (V A : FVec Ideal S64x2048 .f32) (a : BitVec 32) (K : Words) (j : S64x2048.Idx) :
    select (cmpf .ogt V A) (broadcast S64x2048 a) K j
      = if (A : S64x2048.Idx → EReal) j < (V : S64x2048.Idx → EReal) j then a else K j := by
  show Scalar.select (BitVec.ofBool (decide ((A : S64x2048.Idx → EReal) j < (V : S64x2048.Idx → EReal) j))) a (K j) = _
  unfold Scalar.select
  by_cases h : (A : S64x2048.Idx → EReal) j < (V : S64x2048.Idx → EReal) j
  · rw [if_pos h, decide_eq_true h]; rfl
  · rw [if_neg h, decide_eq_false h]; rfl

variable (m : (ℓ : Loc nD τ sig) → Buf (Elt Ideal) ℓ) (c : Dev nD)

/-- The scores of a row of the launch's logits, −∞ past the row's end. -/
abbrev rowOf (i : Fin 64) : ℕ → EReal := row (logit m c) i

/-- A column inside the array: the noise of its position plus the block's logit is the row's score. -/
theorem row_block (t : Fin cfg0.N) (j : S64x2048.Idx) (hj : t.val * 2048 + (j 1).val < 100000) :
    noise (Hash.word (position (j 0).val (t.val * 2048 + (j 1).val))) + (xblk m c t : S64x2048.Idx → EReal) j
      = rowOf m c (j 0) (t.val * 2048 + (j 1).val) := by
  rw [xblk_apply m c t j hj]
  unfold rowOf row
  rw [dif_pos hj]

/-- The one coordinate of the grid's point `n`. -/
theorem coords_pt (n : ℕ) (hn : n ≤ 48) : (grid0.coords (pt n) 0).val = n := (coords_val _).trans (Nat.min_eq_left hn)

/-- The scores of a middle block. -/
theorem mid_row (n : ℕ) (hn : n < 48) (j : S64x2048.Idx) :
    (k0_pay3 (xblk m c (pt n)) (mid₁ (word (grid0.coords (pt n))) k0_pay8) k0_pay77 : S64x2048.Idx → EReal) j
      = rowOf m c (j 0) (n * 2048 + (j 1).val) := by
  have hj : (j 1).val < 2048 := (j 1).isLt
  have hv : (pt n).val = n := Nat.min_eq_left (by omega)
  have hb := row_block m c (pt n) j (by rw [hv]; omega)
  rw [hv] at hb
  rw [mid_scores, show word (grid0.coords (pt n)) = BitVec.ofNat 32 n from congrArg (BitVec.ofNat 32) (coords_pt n (by omega))]
  exact (scores_lane _ _ j _ (mid_counter (F := Ideal) n j)).trans hb

/-- A middle point's running maximum. -/
theorem midVal_eq (i : grid0.Coords) (X : Vec Ideal S64x2048 .f32) (B : Words) (A : Vec Ideal S64x2048 .f32) :
    midVal i X B A = maximumf (k0_pay3 X (mid₁ (word i) B) k0_pay77) A := by
  unfold midVal k0_pay5
  exact cast_self _ _

/-- A middle point's block numbers. -/
theorem midBlk_eq (i : grid0.Coords) (X : Vec Ideal S64x2048 .f32) (B : Words) (A : Vec Ideal S64x2048 .f32) (K : Words) :
    midBlk i X B A K = select (cmpf .ogt (k0_pay3 X (mid₁ (word i) B) k0_pay77) A) (broadcast S64x2048 (word i)) K := by
  unfold midBlk k0_pay4
  exact cast_self _ _

/-- The block numbers of the first point. -/
theorem pay2_eq : k0_pay2 = broadcast S64x2048 0#32 := cast_self _ _

/-- The running maximum, and the block it first stood in, after each point before the last. -/
theorem running (n : ℕ) (hn : n < 48) (j : S64x2048.Idx) :
    (valAt m c n : S64x2048.Idx → EReal) j = top (rowOf m c (j 0)) 2048 (j 1).val n ∧
      (blkAt m c n : S64x2048.Idx → BitVec 32) j = BitVec.ofNat 32 (topAt (rowOf m c (j 0)) 2048 (j 1).val n) := by
  induction n with
  | zero =>
    have hj : (j 1).val < 2048 := (j 1).isLt
    have hv : (pt 0).val = 0 := rfl
    have hb := row_block m c (pt 0) j (by omega)
    rw [hv] at hb
    have hc := first_counter j
    rw [show (j 1).val = 0 * 2048 + (j 1).val by omega] at hc
    constructor
    · rw [valAt, firstVal_eq, top]
      exact (scores_lane _ _ j _ hc).trans hb
    · rw [blkAt, pay2_eq, topAt]
      rfl
  | succ n ih =>
    obtain ⟨hA, hK⟩ := ih (by omega)
    have hV := mid_row m c (n + 1) hn j
    have hw : word (grid0.coords (pt (n + 1))) = BitVec.ofNat 32 (n + 1) := congrArg (BitVec.ofNat 32) (coords_pt (n + 1) (by omega))
    constructor
    · rw [valAt, midVal_eq, max_lane, hV, hA, top]
    · rw [blkAt, midBlk_eq, choose_lane, hV, hA, hK, hw, topAt]
      split <;> rfl

end Cert.Sampler
-- ==== Proof.KernelValue.lean ====
/-
  The kernel's result over the reals: each row's first largest score.
-/
module

public import proofs.«01_k».proof.Proof.Running
public import Idealize.ShloMosaic.Lib.Pipeline.Value

@[expose] public section

noncomputable section

namespace Cert.Sampler

open Cert.KernelIdeal Cert.KernelIdeal.Gen Cert.Hash Cert.Score Cert.First
open Idealize.ShloMosaic Idealize.ShloMosaic.TcCoe Idealize.SL.Sem

/-! ## Least and largest of a row -/

/-- The largest of a row's numbers is one of them. -/
theorem fold_max_spec {n : ℕ} (hn : 0 < n) (g : Fin n → EReal) :
    (∀ l, g l ≤ (Finset.univ : Finset (Fin n)).fold max ⊥ g) ∧ ∃ l, g l = (Finset.univ : Finset (Fin n)).fold max ⊥ g := by
  have hle : ∀ l, g l ≤ (Finset.univ : Finset (Fin n)).fold max ⊥ g := fun l =>
    (Finset.le_fold_max _).mpr (.inr ⟨l, Finset.mem_univ _, le_refl _⟩)
  refine ⟨hle, ?_⟩
  rcases (Finset.le_fold_max _).mp (le_refl ((Finset.univ : Finset (Fin n)).fold max ⊥ g)) with h | ⟨l, -, h⟩
  · exact ⟨⟨0, hn⟩, le_antisymm (hle _) (h.trans bot_le)⟩
  · exact ⟨l, le_antisymm (hle _) h⟩

/-- The signed least of words that hold small naturals holds the least of the naturals. -/
theorem fold_minsi {n : ℕ} (a : ℕ) (ha : a < 2 ^ 31) (g : Fin n → ℕ) (hg : ∀ l, g l < 2 ^ 31) (s : Finset (Fin n)) :
    s.fold IntOp.minsi (BitVec.ofNat 32 a) (fun l => BitVec.ofNat 32 (g l)) = BitVec.ofNat 32 (s.fold min a g) ∧ s.fold min a g < 2 ^ 31 := by
  induction s using Finset.induction_on with
  | empty => exact ⟨rfl, ha⟩
  | insert l s hl ih =>
    rw [Finset.fold_insert hl, Finset.fold_insert hl, ih.1]
    refine ⟨?_, lt_of_le_of_lt (min_le_left _ _) (hg l)⟩
    rw [IntOp.minsi, slt_ofNat (hg l) ih.2]
    by_cases h : g l < s.fold min a g
    · rw [min_eq_left h.le, decide_eq_true h]; rfl
    · rw [min_eq_right (not_lt.mp h), decide_eq_false h]; rfl

/-- The least of naturals that are marked or below a bound: it is the least of those below, if there is one. -/
theorem fold_min_spec {n : ℕ} (a : ℕ) (g : Fin n → ℕ) (h : ∃ l, g l < a) :
    (∃ l, g l < a ∧ g l = (Finset.univ : Finset (Fin n)).fold min a g) ∧ ∀ l, (Finset.univ : Finset (Fin n)).fold min a g ≤ g l := by
  have hle : ∀ l, (Finset.univ : Finset (Fin n)).fold min a g ≤ g l := fun l =>
    (Finset.fold_min_le _).mpr (.inr ⟨l, Finset.mem_univ _, le_refl _⟩)
  refine ⟨?_, hle⟩
  obtain ⟨l0, h0⟩ := h
  rcases (Finset.fold_min_le _).mp (le_refl ((Finset.univ : Finset (Fin n)).fold min a g)) with h | ⟨l, -, h⟩
  · exact absurd (h.trans (hle l0)) (not_le.mpr h0)
  · have e := le_antisymm h (hle l)
    exact ⟨l, e ▸ (hle l0).trans_lt h0, e⟩

/-! ## Layouts -/

/-- A row's lanes, under the reduction along them. -/
theorem lift_eq (i : Fin 64) (l : Fin 2048) :
    reduces_S64x2048_S64.lift (ValueIdx.ix1 i) l = (ValueIdx.ix2 i l : S64x2048.Idx) :=
  funext fun a => match a with | ⟨0, _⟩ => rfl | ⟨1, _⟩ => rfl

/-- One number per row, spread along the rows' lanes. -/
theorem spread_rows {α : Type} (r : S64.Idx → α) (h h') (i : Fin 64) (l : Fin 2048) :
    broadcastTo S64x2048 (shapeCast S64x1 r h) h' (ValueIdx.ix2 i l) = r (ValueIdx.ix1 i) := by
  refine (broadcastTo_apply _ _ (ValueIdx.ix2 i l) (ValueIdx.ix2 i 0 : S64x1.Idx) fun a => ?_).trans (shapeCast_apply _ _ _ _ ?_)
  · match a with | ⟨0, _⟩ => rfl | ⟨1, _⟩ => rfl
  · rw [Shape.rowMajor_val_two, Shape.rowMajor_val_one]
    show i.val = i.val * 1 + 0
    omega

/-- One word per row, as a column, turned into a row and flattened: the same words. -/
theorem flatten_rows {α : Type} (r : S64.Idx → α) (h h' h'') (i : Fin 64) :
    shapeCast S64 (transpose S1x64 [1, 0] (shapeCast S64x1 r h) h') h'' (ValueIdx.ix1 i) = r (ValueIdx.ix1 i) := by
  refine (shapeCast_apply _ _ _ (ValueIdx.ix2 0 i : S1x64.Idx) ?_).trans
    ((transpose_apply _ _ _ _ (ValueIdx.ix2 i 0 : S64x1.Idx) fun b => ?_).trans (shapeCast_apply _ _ _ _ ?_))
  · rw [Shape.rowMajor_val_two, Shape.rowMajor_val_one]
    show 0 * 64 + i.val = i.val
    omega
  · match b with | ⟨0, _⟩ => rfl | ⟨1, _⟩ => rfl
  · rw [Shape.rowMajor_val_two, Shape.rowMajor_val_one]
    show i.val = i.val * 1 + 0
    omega

/-- The reduction by maximum: the largest of a row's numbers. -/
theorem max_rows (x : FVec Ideal S64x2048 .f32) (i : Fin 64) (g : Fin 2048 → EReal) (hx : ∀ l, (x : S64x2048.Idx → EReal) (ValueIdx.ix2 i l) = g l) :
    (multiReduction .maximumf [1] S64 x 0xFF800000#32 reduces_S64x2048_S64 (.inl rfl) rfl : S64.Idx → EReal) (ValueIdx.ix1 i)
      = (Finset.univ : Finset (Fin 2048)).fold max ⊥ g := by
  refine (Ideal.multiReduction_maximumf_single x 0xFF800000#32 reduces_S64x2048_S64 (.inl rfl) rfl (ValueIdx.ix1 i)).trans ?_
  refine congrArg₂ (fun b g => (Finset.univ : Finset (Fin 2048)).fold max b g) negInf (funext fun l => ?_)
  exact (congrArg x (lift_eq i l)).trans (hx l)

/-- The reduction by signed minimum: the least of the naturals a row's words hold. -/
theorem min_rows (x : Words) (i : Fin 64) (g : Fin 2048 → ℕ) (hx : ∀ l, x (ValueIdx.ix2 i l) = BitVec.ofNat 32 (g l)) (hg : ∀ l, g l < 2 ^ 31) :
    multiReductionI .minsi [1] S64 x 2147483647#32 reduces_S64x2048_S64 rfl (ValueIdx.ix1 i)
      = BitVec.ofNat 32 ((Finset.univ : Finset (Fin 2048)).fold min 2147483647 g) := by
  refine (multiReductionI_eq_fold .minsi x 2147483647#32 reduces_S64x2048_S64 rfl (ValueIdx.ix1 i)).trans
    ((reduces_S64x2048_S64.fold_filter_drop_single IntOp.minsi 2147483647#32 x (ValueIdx.ix1 i)).trans ?_)
  refine Eq.trans (congrArg (fun h => (Finset.univ : Finset (Fin 2048)).fold IntOp.minsi 2147483647#32 h) (funext fun l => ?_))
    (fold_minsi 2147483647 (by decide) g hg Finset.univ).1
  exact (congrArg x (lift_eq i l)).trans (hx l)

/-! ## The last block -/

variable (m : (ℓ : Loc nD τ sig) → Buf (Elt Ideal) ℓ) (c : Dev nD)

/-- The last block's masked scores are the row's, −∞ past its end. -/
theorem masked_row (j : S64x2048.Idx) :
    (masked (grid0.coords (pt 48)) (xblk m c (pt 48)) k0_pay8 : S64x2048.Idx → EReal) j = rowOf m c (j 0) (48 * 2048 + (j 1).val) := by
  have hv : (pt 48).val = 48 := rfl
  have hw : word (grid0.coords (pt 48)) = BitVec.ofNat 32 48 := congrArg (BitVec.ofNat 32) (coords_pt 48 (by omega))
  unfold masked select
  rw [mask_apply _ (coords_pt 48 (by omega)) j, hw, last₁_eq]
  by_cases hj : (j 1).val < 1696
  · have hb := row_block m c (pt 48) j (by omega)
    rw [hv] at hb
    rw [decide_eq_true hj]
    exact (scores_lane _ _ j _ (last_counter (F := Ideal) 48 j)).trans hb
  · rw [decide_eq_false hj]
    show Ideal.ofBits .f32 0xFF800000#32 = _
    unfold rowOf row
    rw [negInf, dif_neg (by omega)]

/-- The last block's candidates, from each lane's largest score and the block it stood in. -/
theorem cands_lane (i : grid0.Coords) (V A : FVec Ideal S64x2048 .f32) (K : Words) (r : Fin 64) (l : Fin 2048) (M T : EReal) (n : ℕ)
    (hT : (maximumf V A : S64x2048.Idx → EReal) (ValueIdx.ix2 r l) = T) (hK : lastBlk i V A K (ValueIdx.ix2 r l) = BitVec.ofNat 32 n)
    (hM : (multiReduction .maximumf [1] S64 (maximumf V A) 0xFF800000#32 reduces_S64x2048_S64 (.inl rfl) rfl : S64.Idx → EReal) (ValueIdx.ix1 r) = M) :
    cands i V A K (ValueIdx.ix2 r l) = open Classical in BitVec.ofNat 32 (if T = M then n * 2048 + l.val else 2147483647) := by
  unfold cands
  have e1 : broadcastTo S64x2048 (shapeCast S64x1
      (multiReduction .maximumf [1] S64 (maximumf V A) 0xFF800000#32 reduces_S64x2048_S64 (.inl rfl) rfl) shapeCasts_S64_S64x1) broadcasts_S64x1_S64x2048 (ValueIdx.ix2 r l) = M :=
    (spread_rows _ _ _ r l).trans hM
  show Scalar.select (Ideal.cmp .oeq ((maximumf V A : S64x2048.Idx → EReal) (ValueIdx.ix2 r l)) _)
    (lastBlk i V A K (ValueIdx.ix2 r l) * 2048#32 + BitVec.ofNat 32 (0 * 2048 + l.val)) 2147483647#32 = _
  rw [hT, hK]
  refine (congrArg (fun x => Scalar.select (Ideal.cmp .oeq T x) (BitVec.ofNat 32 n * 2048#32 + BitVec.ofNat 32 (0 * 2048 + l.val)) 2147483647#32) e1).trans ?_
  unfold Ideal.cmp Scalar.select
  by_cases h : T = M
  · rw [if_pos h]
    simp only [h, decide_true]
    rw [Nat.zero_mul, Nat.zero_add, BitVec.ofNat_add, BitVec.ofNat_mul]
    rfl
  · rw [if_neg h]
    simp only [h, decide_false]
    rfl

/-- Each sampled column is its row's first largest score's. -/
theorem out_isFirst (i : Fin 64) :
    ∃ k, IsFirst (rowOf m c i) 100000 k ∧ shapeCast S64 (outRow m c) shapeCasts_S1x64_S64 (ValueIdx.ix1 i) = BitVec.ofNat 32 k := by
  set f := rowOf m c i with hf
  have htop : ∀ l : Fin 2048, (maximumf (masked (grid0.coords (pt 48)) (xblk m c (pt 48)) k0_pay8) (valAt m c 47) : S64x2048.Idx → EReal) (ValueIdx.ix2 i l)
      = top f 2048 l.val 48 := fun l => by
    rw [max_lane, masked_row, (running m c 47 (by omega) _).1]
    rfl
  have hblk : ∀ l : Fin 2048, lastBlk (grid0.coords (pt 48)) (masked (grid0.coords (pt 48)) (xblk m c (pt 48)) k0_pay8) (valAt m c 47) (blkAt m c 47) (ValueIdx.ix2 i l)
      = BitVec.ofNat 32 (topAt f 2048 l.val 48) := fun l => by
    have hw : word (grid0.coords (pt 48)) = BitVec.ofNat 32 48 := congrArg (BitVec.ofNat 32) (coords_pt 48 (by omega))
    refine Eq.trans ?_ (congrArg (BitVec.ofNat 32) (topAt_succ f 2048 l.val 47).symm)
    rw [lastBlk, choose_lane, masked_row, (running m c 47 (by omega) _).1, (running m c 47 (by omega) _).2, hw, apply_ite (BitVec.ofNat 32)]
  set M := (Finset.univ : Finset (Fin 2048)).fold max ⊥ fun l => top f 2048 l.val 48 with hMdef
  obtain ⟨hMle, hMex⟩ := fold_max_spec (by decide) fun l : Fin 2048 => top f 2048 l.val 48
  rw [← hMdef] at hMle hMex
  have hM : (multiReduction .maximumf [1] S64 (maximumf (masked (grid0.coords (pt 48)) (xblk m c (pt 48)) k0_pay8) (valAt m c 47))
      0xFF800000#32 reduces_S64x2048_S64 (.inl rfl) rfl : S64.Idx → EReal) (ValueIdx.ix1 i) = M := max_rows _ i _ htop
  classical
  set g : Fin 2048 → ℕ := fun l => if top f 2048 l.val 48 = M then topAt f 2048 l.val 48 * 2048 + l.val else 2147483647 with hg
  have hgl : ∀ l : Fin 2048, top f 2048 l.val 48 = M → g l = topAt f 2048 l.val 48 * 2048 + l.val := fun l h => if_pos h
  have hplace : ∀ l : Fin 2048, topAt f 2048 l.val 48 * 2048 + l.val < 2147483647 := fun l => by
    have := (topAt_spec f 2048 l.val 48).1
    have := l.isLt
    omega
  have hcand : ∀ l : Fin 2048, cands (grid0.coords (pt 48)) (masked (grid0.coords (pt 48)) (xblk m c (pt 48)) k0_pay8) (valAt m c 47) (blkAt m c 47) (ValueIdx.ix2 i l)
      = BitVec.ofNat 32 (g l) := fun l => by
    refine (cands_lane _ _ _ _ i l M _ _ (htop l) (hblk l) hM).trans ?_
    congr
  have hsmall : ∀ l, g l < 2 ^ 31 := fun l => by
    by_cases h : top f 2048 l.val 48 = M
    · exact hgl l h ▸ (hplace l).trans (by decide)
    · exact (show g l = 2147483647 from if_neg h) ▸ (by decide)
  obtain ⟨⟨l, hl, hlk⟩, hmin⟩ := fold_min_spec 2147483647 g (by
    obtain ⟨l, hl⟩ := hMex
    exact ⟨l, hgl l hl ▸ hplace l⟩)
  set k := (Finset.univ : Finset (Fin 2048)).fold min 2147483647 g with hk
  have hlM : top f 2048 l.val 48 = M := by
    by_contra h
    rw [hg] at hl
    simp only [if_neg h] at hl
    omega
  have hfirst : IsFirst f ((48 + 1) * 2048) k := residues_isFirst (M := M) (fun l hl => hMle ⟨l, hl⟩)
    ⟨l.val, l.isLt, hlM, by rw [← hlk, hgl l hlM]⟩ (fun l hl h => by
      have := hmin ⟨l, hl⟩
      rwa [hgl ⟨l, hl⟩ h] at this)
  refine ⟨k, hfirst.shorten (by decide) (by decide) fun c hc => dif_neg (not_lt.mpr hc), ?_⟩
  unfold outRow
  rw [lastOut_eq, flatten_rows]
  exact min_rows _ i g hcand hsmall

end Cert.Sampler
-- ==== Proof.RefHash.lean ====
/-
  What the reference's hash computes: in contents that the hash's operations leave as they are, the two results hold,
  position by position, the hash of the counter under the key.
-/
module

public import proofs.«01_k».proof.Proof.Hash
public import proofs.«01_k».proof.Proof.RefOps

@[expose] public section

noncomputable section

namespace Cert.RefRun

open Cert.ReferenceIdeal Cert.ReferenceIdeal.Facts₀ Cert.Line Cert.Hash
open Idealize.ShloMosaic Idealize.ShloMosaic.StableHlo Idealize.ShloMosaic.TcCoe Idealize.SL.Sem

variable {F : FTy → Type} [FloatOps F] {W : Valuation τ sig (Elt F)}

/-- The one element of an array of rank zero. -/
def the {α : Type} (x : S_.Idx → α) : α := x fun a => a.elim0

theorem the_eq {α : Type} (x : S_.Idx → α) (i : S_.Idx) : x i = the x := congrArg x (funext fun a => a.elim0)

/-- A rank-zero array spread over an array holds its one element everywhere. -/
theorem spread {α : Type} {t : Shape} (h) (x : S_.Idx → α) (j : t.Idx) :
    broadcastInDim (s := S_) t ![] h x j = the x := the_eq x _

/-- A word of an array of words. -/
abbrev word32 (W : Valuation τ sig (Elt F)) (x : Arr) (j : S64x100000.Idx) : BitVec 32 := rd W x j

/-- The word of a single word's buffer. -/
abbrev word0 (W : Valuation τ sig (Elt F)) (x : Sca) : BitVec 32 := the (rd W x)

theorem round_reads {r r' : BitVec 32} (hr : r.toNat < 32) (hr' : r'.toNat < 32) {x0 x1 y0 : Arr} {c : Sca} {b s : Arr}
    {c' : Sca} {b' s' o y1 : Arr} (h : Fixes W (roundOps r r' x0 x1 y0 c b s c' b' s' o y1)) (j : S64x100000.Idx) :
    (word32 W y0 j, word32 W y1 j) = mix r r' (word32 W x0 j, word32 W x1 j) := by
  simp only [roundOps, fixes_cons] at h
  obtain ⟨h1, h2, h3, h4, h5, h6, h7, h8, h9, -⟩ := h
  have e1 : word32 W y0 j = word32 W x0 j + word32 W x1 j := congrFun (read_binary h1) j
  have e3 : word32 W b j = r := by
    refine (congrFun (read_unary h3) j).trans ((spread _ _ j).trans ?_)
    exact congrFun (read_nullary h2) _
  have e6 : word32 W b' j = r' := by
    refine (congrFun (read_unary h6) j).trans ((spread _ _ j).trans ?_)
    exact congrFun (read_nullary h5) _
  have e4 : word32 W s j = word32 W x1 j <<< r := by
    refine (congrFun (read_binary h4) j).trans ?_
    show IntOp.shli .host (word32 W x1 j) (word32 W b j) = _
    rw [e3, shli_eq _ _ _ hr]
  have e7 : word32 W s' j = word32 W x1 j >>> r' := by
    refine (congrFun (read_binary h7) j).trans ?_
    show IntOp.shrui .host (word32 W x1 j) (word32 W b' j) = _
    rw [e6, shrui_eq _ _ _ hr']
  have e8 : word32 W o j = word32 W s j ||| word32 W s' j := congrFun (read_binary h8) j
  have e9 : word32 W y1 j = word32 W y0 j ^^^ word32 W o j := congrFun (read_binary h9) j
  rw [e9, e8, e7, e4, e1]
  rfl

theorem inject_reads {w : BitVec 32} {k k' : Sca} {x0 x1 b y0 b' t : Arr} {c : Sca} {b'' y1 : Arr}
    (h : Fixes W (injectOps w k k' x0 x1 b y0 b' t c b'' y1)) (j : S64x100000.Idx) :
    (word32 W y0 j, word32 W y1 j) = inject w (word0 W k) (word0 W k') (word32 W x0 j, word32 W x1 j) := by
  simp only [injectOps, fixes_cons] at h
  obtain ⟨h1, h2, h3, h4, h5, h6, h7, -⟩ := h
  have e1 : word32 W b j = word0 W k := (congrFun (read_unary h1) j).trans (spread _ _ j)
  have e2 : word32 W y0 j = word32 W x0 j + word32 W b j := congrFun (read_binary h2) j
  have e3 : word32 W b' j = word0 W k' := (congrFun (read_unary h3) j).trans (spread _ _ j)
  have e4 : word32 W t j = word32 W x1 j + word32 W b' j := congrFun (read_binary h4) j
  have e6 : word32 W b'' j = w := by
    refine (congrFun (read_unary h6) j).trans ((spread _ _ j).trans ?_)
    exact congrFun (read_nullary h5) _
  have e7 : word32 W y1 j = word32 W t j + word32 W b'' j := congrFun (read_binary h7) j
  rw [e7, e6, e4, e3, e2, e1]
  rfl

/-- The hash's results, from its arguments. -/
theorem threefry_reads {a0 a1 : Sca} {a2 a3 : Arr} {φ : fn_threefry2x32.Bufs} (h : Fixes W (threefryOps a0 a1 a2 a3 φ))
    (j : S64x100000.Idx) :
    (word32 W φ.v171 j, word32 W φ.v175 j) = threefry (word0 W a0) (word0 W a1) (word32 W a2 j, word32 W a3 j) := by
  simp only [threefryOps, groupOps1, groupOps2, groupOps3, groupOps4, groupOps5, fixes_append] at h
  obtain ⟨⟨⟨⟨⟨hs, ⟨⟨⟨a1', a2'⟩, a3'⟩, a4'⟩, a5'⟩, ⟨⟨⟨b1, b2⟩, b3⟩, b4⟩, b5⟩, ⟨⟨⟨c1, c2⟩, c3⟩, c4⟩, c5⟩,
    ⟨⟨⟨d1, d2⟩, d3⟩, d4⟩, d5⟩, ⟨⟨⟨e1, e2⟩, e3⟩, e4⟩, e5⟩ := h
  simp only [startOps, fixes_cons] at hs
  obtain ⟨h1, h2, h3, h4, h5, h6, h7, -⟩ := hs
  have k1 : word0 W φ.v0 = word0 W a0 ^^^ word0 W a1 := congrFun (read_binary h1) _
  have k2 : word0 W φ.c = 466688986#32 := congrFun (read_nullary h2) _
  have k3 : word0 W φ.v1 = third (word0 W a0) (word0 W a1) := by
    refine (congrFun (read_binary h3) _).trans ?_
    show word0 W φ.v0 ^^^ word0 W φ.c = _
    rw [k1, k2]
    rfl
  have k4 : word32 W φ.v2 j = word0 W a0 := (congrFun (read_unary h4) j).trans (spread _ _ j)
  have k5 : word32 W φ.v3 j = word32 W a2 j + word32 W φ.v2 j := congrFun (read_binary h5) j
  have k6 : word32 W φ.v4 j = word0 W a1 := (congrFun (read_unary h6) j).trans (spread _ _ j)
  have k7 : word32 W φ.v5 j = word32 W a3 j + word32 W φ.v4 j := congrFun (read_binary h7) j
  rw [inject_reads e5, round_reads (by decide) (by decide) e4, round_reads (by decide) (by decide) e3,
    round_reads (by decide) (by decide) e2, round_reads (by decide) (by decide) e1, inject_reads d5,
    round_reads (by decide) (by decide) d4, round_reads (by decide) (by decide) d3,
    round_reads (by decide) (by decide) d2, round_reads (by decide) (by decide) d1, inject_reads c5,
    round_reads (by decide) (by decide) c4, round_reads (by decide) (by decide) c3,
    round_reads (by decide) (by decide) c2, round_reads (by decide) (by decide) c1, inject_reads b5,
    round_reads (by decide) (by decide) b4, round_reads (by decide) (by decide) b3,
    round_reads (by decide) (by decide) b2, round_reads (by decide) (by decide) b1, inject_reads a5',
    round_reads (by decide) (by decide) a4', round_reads (by decide) (by decide) a3',
    round_reads (by decide) (by decide) a2', round_reads (by decide) (by decide) a1', k3, k7, k6, k5, k4]
  rfl

end Cert.RefRun
-- ==== Proof.RefScore.lean ====
/-
  The scores the reference takes the largest of: in contents that its operations leave as they are, the array it hands
  to the search holds, at every position, the score of that position.
-/
module

public import proofs.«01_k».proof.Proof.RefHash
public import proofs.«01_k».proof.Proof.Score
public import Idealize.ShloMosaic.Lib.Pipeline.Value
public import Idealize.ShloMosaic.Lib.ValueIdxCore

@[expose] public section

noncomputable section

namespace Cert.RefRun

open Cert.ReferenceIdeal Cert.ReferenceIdeal.Facts₀ Cert.Line Cert.Hash Cert.Score
open Idealize.ShloMosaic Idealize.ShloMosaic.StableHlo Idealize.ShloMosaic.TcCoe Idealize.ShloMosaic.ValueIdx Idealize.SL.Sem

variable {W : Valuation τ sig (Elt Ideal)}

/-- An array of numbers, one for each position of the logits. -/
abbrev Nums := TRef sig ⟨S64x100000, .f32⟩

/-- A number of an array. -/
abbrev num (W : Valuation τ sig (Elt Ideal)) (x : Nums) (j : S64x100000.Idx) : EReal := rd W x j

/-- The number of a single number's buffer. -/
abbrev num0 (W : Valuation τ sig (Elt Ideal)) (x : TRef sig ⟨S_, .f32⟩) : EReal := the (rd W x)

/-- A number of an array of one row and one column. -/
abbrev num1 (W : Valuation τ sig (Elt Ideal)) (x : TRef sig ⟨S1x1, .f32⟩) (j : S1x1.Idx) : EReal := rd W x j

/-- A word of a pair of words. -/
abbrev wordOf (W : Valuation τ sig (Elt Ideal)) (x : TRef sig ⟨S2, .i32⟩) (j : S2.Idx) : BitVec 32 := rd W x j

/-- A 64-bit word of an array. -/
abbrev word64 (W : Valuation τ sig (Elt Ideal)) (x : TRef sig ⟨S64x100000, .i64⟩) (j : S64x100000.Idx) : BitVec 64 := rd W x j

/-! ## The key -/

theorem key_reads (h : Fixes W keyOps) :
    wordOf W (.of main_v6) (ix1 0) = 0#32 ∧ wordOf W (.of main_v6) (ix1 1) = 42#32 ∧
      num0 W (.of main_cst) = 0 ∧ num0 W (.of main_cst_2) = 1 := by
  simp only [keyOps, fixes_cons] at h
  obtain ⟨h1, h2, h3, h4, h5, h6, h7, h8, h9, h10, h11, h12, -⟩ := h
  have k1 : word0 W (.of main_c) = 42#32 := congrFun (read_nullary h1) _
  have k2 : word0 W (.of main_c_0) = 32#32 := congrFun (read_nullary h2) _
  have k3 : word0 W (.of main_v0) = 0#32 := by
    refine (congrFun (read_binary h3) _).trans ?_
    show IntOp.shrui .host (word0 W (.of main_c)) (word0 W (.of main_c_0)) = _
    rw [k1, k2]
    simp [IntOp.shrui, IntOp.cornerWord]
  have k4 : word0 W (.of main_v1) = 0#32 := (congrFun (read_unary h4) _).trans k3
  have k6 : word0 W (.of main_c_1) = 4294967295#32 := congrFun (read_nullary h6) _
  have k7 : word0 W (.of main_v3) = 42#32 := by
    refine (congrFun (read_binary h7) _).trans ?_
    show word0 W (.of main_c) &&& word0 W (.of main_c_1) = _
    rw [k1, k6]
    decide
  have k8 : word0 W (.of main_v4) = 42#32 := (congrFun (read_unary h8) _).trans k7
  refine ⟨?_, ?_, ?_, ?_⟩
  · refine (congrFun (read_binary h10) (ix1 0)).trans ((concatenate_pair_apply_left (t := S2) (s₁ := S1) (s₂ := S1) 0 _ _ _ _ rfl (ix1 0) ?_).trans ?_)
    · intro b; match b with | ⟨0, _⟩ => rfl
    · exact (congrFun (read_unary h5) _).trans ((spread _ _ _).trans k4)
  · refine (congrFun (read_binary h10) (ix1 1)).trans ((concatenate_pair_apply_right (t := S2) (s₁ := S1) (s₂ := S1) 0 _ _ _ _ rfl rfl (ix1 0) ?_ rfl).trans ?_)
    · intro b hb; match b with | ⟨0, _⟩ => exact absurd rfl hb
    · exact (congrFun (read_unary h9) _).trans ((spread _ _ _).trans k8)
  · exact (congrFun (read_nullary h11) _).trans Ideal.ofBits_zero_f32
  · exact (congrFun (read_nullary h12) _).trans Ideal.ofBits_one_f32

/-! ## The counters -/

/-- A position below 2³² as a 64-bit word: its lower half. -/
theorem low_half (n : ℕ) : (BitVec.ofNat 64 n).setWidth 32 = BitVec.ofNat 32 n := by
  apply BitVec.eq_of_toNat_eq
  simp only [BitVec.toNat_setWidth, BitVec.toNat_ofNat]
  omega

/-- Its upper half. -/
theorem high_half (n : ℕ) (h : n < 2 ^ 32) : (BitVec.ofNat 64 n >>> 32#64).setWidth 32 = 0#32 := by
  apply BitVec.eq_of_toNat_eq
  simp only [BitVec.toNat_setWidth, BitVec.ushiftRight_eq', BitVec.toNat_ushiftRight, BitVec.toNat_ofNat, Nat.shiftRight_eq_div_pow, Nat.reducePow, Nat.reduceMod]
  omega

theorem counter_reads {a : TRef sig ⟨S2, .i32⟩} {b c : TRef sig ⟨S_, .f32⟩} {φ : fn_uniform.Bufs}
    (h : Fixes W (counterOps a b c φ)) (i : Fin 64) (k : Fin 100000) :
    word0 W φ.v5 = wordOf W a (ix1 0) ∧ word0 W φ.v7 = wordOf W a (ix1 1) ∧
      word32 W φ.v18 (ix2 i k) = 0#32 ∧ word32 W φ.v17 (ix2 i k) = position i k ∧
      (∀ j, num1 W φ.v2 j = num0 W b) ∧ ∀ j, num1 W φ.v3 j = num0 W c := by
  simp only [counterOps, fixes_cons] at h
  obtain ⟨h1, h2, h3, h4, h5, h6, h7, h8, h9, h10, h11, h12, h13, h14, h15, h16, h17, h18, h19, h20, h21, h22, -⟩ := h
  have hi := i.isLt
  have hk := k.isLt
  have k14 : word64 W φ.v14 (ix2 i k) = BitVec.ofNat 64 (100000 * i.val + k.val) := by
    have e9 : word64 W φ.v8 (ix2 i k) = BitVec.ofNat 64 i.val := congrFun (read_nullary h9) _
    have e10 : word64 W φ.v9 (ix2 i k) = BitVec.ofNat 64 k.val := congrFun (read_nullary h10) _
    have e12 : word64 W φ.v10 (ix2 i k) = 100000#64 :=
      (congrFun (read_unary h12) _).trans ((spread _ _ _).trans (congrFun (read_nullary h11) _))
    have e15 : word64 W φ.v12 (ix2 i k) = 1#64 :=
      (congrFun (read_unary h15) _).trans ((spread _ _ _).trans (congrFun (read_nullary h14) _))
    have e13 : word64 W φ.v11 (ix2 i k) = word64 W φ.v10 (ix2 i k) * word64 W φ.v8 (ix2 i k) := congrFun (read_binary h13) _
    have e16 : word64 W φ.v13 (ix2 i k) = word64 W φ.v12 (ix2 i k) * word64 W φ.v9 (ix2 i k) := congrFun (read_binary h16) _
    have e17 : word64 W φ.v14 (ix2 i k) = word64 W φ.v11 (ix2 i k) + word64 W φ.v13 (ix2 i k) := congrFun (read_binary h17) _
    rw [e17, e16, e13, e15, e12, e10, e9, BitVec.one_mul, BitVec.ofNat_add, BitVec.ofNat_mul]
  refine ⟨?_, ?_, ?_, ?_, fun j => ?_, fun j => ?_⟩
  · refine (congrFun (read_reshape h6) _).trans ((congrFun (read_unary h5) _).trans ?_)
    exact congrArg (rd W a) (funext fun x => match x with | ⟨0, _⟩ => Fin.ext (by
      show 0 + _ = 0; exact Nat.lt_one_iff.mp (by rw [Nat.zero_add]; exact Fin.isLt _)))
  · refine (congrFun (read_reshape h8) _).trans ((congrFun (read_unary h7) _).trans ?_)
    exact congrArg (rd W a) (funext fun x => match x with | ⟨0, _⟩ => Fin.ext (by
      show 1 + _ = 1; exact congrArg (1 + ·) (Nat.lt_one_iff.mp (Fin.isLt _))))
  · have e19 : word64 W φ.v15 (ix2 i k) = 32#64 :=
      (congrFun (read_unary h19) _).trans ((spread _ _ _).trans (congrFun (read_nullary h18) _))
    have e20 : word64 W φ.v16 (ix2 i k) = word64 W φ.v14 (ix2 i k) >>> 32#64 := by
      refine (congrFun (read_binary h20) _).trans ?_
      show IntOp.shrui .host (word64 W φ.v14 (ix2 i k)) (word64 W φ.v15 (ix2 i k)) = _
      rw [e19]
      exact if_pos (by decide)
    have e22 : word32 W φ.v18 (ix2 i k) = (word64 W φ.v16 (ix2 i k)).setWidth 32 := congrFun (read_unary h22) _
    rw [e22, e20, k14, high_half _ (by omega)]
  · have e21 : word32 W φ.v17 (ix2 i k) = (word64 W φ.v14 (ix2 i k)).setWidth 32 := congrFun (read_unary h21) _
    rw [e21, k14, low_half, position, BitVec.ofNat_add, BitVec.ofNat_mul, BitVec.mul_comm]
  · exact (congrFun (read_unary h3) j).trans ((spread _ _ _).trans (congrFun (read_unary h1) _))
  · exact (congrFun (read_unary h4) j).trans ((spread _ _ _).trans (congrFun (read_unary h2) _))

/-! ## The numbers between zero and one -/

theorem unit_reads {φ : fn_uniform.Bufs} (h : Fixes W (unitOps φ)) (h2 : ∀ j, num1 W φ.v2 j = 0) (h3 : ∀ j, num1 W φ.v3 j = 1)
    (j : S64x100000.Idx) :
    num W φ.v34 j = max 0 (fraction (word32 W φ.call0.v171 j ^^^ word32 W φ.call0.v175 j) * (1 - 0) + 0) := by
  simp only [unitOps, fixes_cons] at h
  obtain ⟨g1, g2, g3, g4, g5, g6, g7, g8, g9, g10, g11, g12, g13, g14, g15, g16, g17, g18, -⟩ := h
  have e1 : word32 W φ.v20 j = word32 W φ.call0.v171 j ^^^ word32 W φ.call0.v175 j := congrFun (read_binary g1) j
  have e3 : word32 W φ.v21 j = 9#32 := (congrFun (read_unary g3) j).trans ((spread _ _ j).trans (congrFun (read_nullary g2) _))
  have e4 : word32 W φ.v22 j = word32 W φ.v20 j >>> 9#32 := by
    refine (congrFun (read_binary g4) j).trans ?_
    show IntOp.shrui .host (word32 W φ.v20 j) (word32 W φ.v21 j) = _
    rw [e3, shrui_eq _ _ _ (by decide)]
  have e6 : word32 W φ.v23 j = 1065353216#32 := (congrFun (read_unary g6) j).trans ((spread _ _ j).trans (congrFun (read_nullary g5) _))
  have e7 : word32 W φ.v24 j = word32 W φ.v22 j ||| word32 W φ.v23 j := congrFun (read_binary g7) j
  have e8 : num W φ.v25 j = Ideal.ofBits .f32 (word32 W φ.v24 j) := congrFun (read_unary g8) j
  have e10 : num W φ.v26 j = 1 :=
    (congrFun (read_unary g10) j).trans ((spread _ _ j).trans ((congrFun (read_nullary g9) _).trans Ideal.ofBits_one_f32))
  have e11 : num W φ.v27 j = num W φ.v25 j - num W φ.v26 j := congrFun (read_binary g11) j
  have e12 : ∀ y, num1 W φ.v28 y = 1 - 0 := fun y => by
    refine (congrFun (read_binary g12) y).trans ?_
    show num1 W φ.v3 y - num1 W φ.v2 y = _
    rw [h2, h3]
  have e13 : num W φ.v29 j = 1 - 0 := (congrFun (read_unary g13) j).trans (e12 _)
  have e14 : num W φ.v30 j = num W φ.v27 j * num W φ.v29 j := congrFun (read_binary g14) j
  have e15 : num W φ.v31 j = 0 := (congrFun (read_unary g15) j).trans (h2 _)
  have e16 : num W φ.v32 j = num W φ.v30 j + num W φ.v31 j := congrFun (read_binary g16) j
  have e17 : num W φ.v33 j = 0 := (congrFun (read_unary g17) j).trans (h2 _)
  have e18 : num W φ.v34 j = max (num W φ.v33 j) (num W φ.v32 j) := congrFun (read_binary g18) j
  rw [e18, e17, e16, e15, e14, e13, e11, e10, e8, e7, e6, e4, e1]
  rfl

/-! ## The scores -/

theorem gumbel_reads (h : Fixes W gumbelOps) (j : S64x100000.Idx) :
    num W (.of main_v14) j = -Ideal.log (-Ideal.log (max (num W (.of main_v7) j) tiny)) + num W (.of main_arg0) j := by
  simp only [gumbelOps, fixes_cons] at h
  obtain ⟨g1, g2, g3, g4, g5, g6, g7, g8, -⟩ := h
  have e2 : num W (.of main_v8) j = tiny := (congrFun (read_unary g2) j).trans ((spread _ _ j).trans (congrFun (read_nullary g1) _))
  have e3 : num W (.of main_v9) j = max (num W (.of main_v7) j) (num W (.of main_v8) j) := congrFun (read_binary g3) j
  have e4 : num W (.of main_v10) j = Ideal.log (num W (.of main_v9) j) := congrFun (read_unary g4) j
  have e5 : num W (.of main_v11) j = -num W (.of main_v10) j := congrFun (read_unary g5) j
  have e6 : num W (.of main_v12) j = Ideal.log (num W (.of main_v11) j) := congrFun (read_unary g6) j
  have e7 : num W (.of main_v13) j = -num W (.of main_v12) j := congrFun (read_unary g7) j
  have e8 : num W (.of main_v14) j = num W (.of main_v13) j + num W (.of main_arg0) j := congrFun (read_binary g8) j
  rw [e8, e7, e6, e5, e4, e3, e2]

/-- The array handed to the search holds the scores. -/
theorem score_reads (h : Fixes W ops) (i : Fin 64) (k : Fin 100000) :
    num W (.of main_v14) (ix2 i k) = row (fun r c => num W (.of main_arg0) (ix2 r c)) i k.val := by
  simp only [ops, uniformOps, fixes_append] at h
  obtain ⟨hk, ⟨⟨hc, ht⟩, hu⟩, hg, -⟩ := h
  obtain ⟨k0, k1, z, o⟩ := key_reads hk
  obtain ⟨c5, c7, c18, c17, c2, c3⟩ := counter_reads hc i k
  have e := threefry_reads ht (ix2 i k)
  rw [c5, c7, c18, c17, k0, k1] at e
  have eu := unit_reads hu (fun j => (c2 j).trans z) (fun j => (c3 j).trans o) (ix2 i k)
  have ew : word32 W main_call0.call0.v171 (ix2 i k) ^^^ word32 W main_call0.call0.v175 (ix2 i k) = word (position i k) := by
    rw [show word32 W main_call0.call0.v171 (ix2 i k) = _ from congrArg Prod.fst e,
      show word32 W main_call0.call0.v175 (ix2 i k) = _ from congrArg Prod.snd e]
    rfl
  rw [ew] at eu
  rw [gumbel_reads hg, show num W (.of main_v7) (ix2 i k) = _ from eu, bounded, row, dif_pos k.isLt]
  rfl

end Cert.RefRun
-- ==== Proof.RefValue.lean ====
/-
  The reference's result: each row's first largest score.
-/
module

public import proofs.«01_k».proof.Proof.RefScore
public import proofs.«01_k».proof.Proof.First
public import proofs.«01_k».proof.Proof.SmallWord

@[expose] public section

noncomputable section

namespace Cert.RefRun

open Cert.ReferenceIdeal Cert.ReferenceIdeal.Facts₀ Cert.Line Cert.Score Cert.First
open Idealize.ShloMosaic Idealize.ShloMosaic.StableHlo Idealize.ShloMosaic.TcCoe Idealize.ShloMosaic.ValueIdx Idealize.SL.Sem

variable {W : Valuation τ sig (Elt Ideal)}

/-- A number and a natural as the number and the natural's word. -/
def asWord (p : EReal × ℕ) : EReal × BitVec 32 := (p.1, BitVec.ofNat 32 p.2)

/-- On small naturals the search's choice between two pairs is the better pair. -/
theorem reducer_better (a b : EReal × ℕ) (ha : a.2 < 2 ^ 31) (hb : b.2 < 2 ^ 31) :
    reducer_argmax_f32_i32 (F := Ideal) (asWord a) (asWord b) = asWord (better a b) := by
  unfold reducer_argmax_f32_i32 better asWord
  simp only [Ideal.cmpf_def, Ideal.cmp, IntOp.cmpi, IntOp.ori, IntOp.andi, Scalar.select, slt_ofNat ha hb]
  rcases lt_trichotomy b.1 a.1 with h | h | h
  · simp [h, h.ne']
  · by_cases hs : a.2 < b.2
    · simp [h, hs]
    · simp [h, hs]
  · simp [not_lt.mpr h.le, h.ne]

/-- And so over a list. -/
theorem fold_words (l : List (EReal × ℕ)) (a : EReal × ℕ) (ha : a.2 < 2 ^ 31) (hl : ∀ p ∈ l, p.2 < 2 ^ 31) :
    (l.map asWord).foldl (reducer_argmax_f32_i32 (F := Ideal)) (asWord a) = asWord (l.foldl better a) := by
  induction l generalizing a with
  | nil => rfl
  | cons b l ih =>
    have hb := hl b List.mem_cons_self
    rw [List.map_cons, List.foldl_cons, List.foldl_cons, reducer_better a b ha hb]
    refine ih _ ?_ fun p hp => hl p (List.mem_cons_of_mem _ hp)
    rcases (better_beats a b).1 with e | e <;> rw [e] <;> assumption

/-- The search over an array of numbers with their columns ends, in each row, at the first largest. -/
theorem search_isFirst (x : S64x100000.Idx → EReal) (y : S64x100000.Idx → BitVec 32) (u : S_.Idx → EReal) (v : S_.Idx → BitVec 32)
    (hy : ∀ j, y j = BitVec.ofNat 32 (j 1).val) (hu : the u = ⊥) (hv : the v = 0#32) (i : Fin 64) (f : ℕ → EReal)
    (hf : ∀ k : Fin 100000, x (ix2 i k) = f k.val) :
    ∃ k, IsFirst f 100000 k ∧
      (Host.argReduce (F := Ideal) (φ := .f32) reducer_argmax_f32_i32 x y u v reducesTo_S64x100000_S64_d1 h_S_ (ix1 i)).2 = BitVec.ofNat 32 k := by
  rw [Ideal.argReduce_eq_reduce2, Host.reduce2_eq_foldl_fiber]
  set l : List (EReal × ℕ) := ((List.finRange S64x100000.numel).filter fun n =>
    reducesTo_S64x100000_S64_d1.drop (S64x100000.rowMajor.symm n) = ix1 i).map
      fun n => (x (S64x100000.rowMajor.symm n), (S64x100000.rowMajor.symm n 1).val) with hl
  have hfib : Host.argReduceFiber x y reducesTo_S64x100000_S64_d1 (ix1 i) = l.map asWord := by
    rw [hl, List.map_map]
    unfold Host.argReduceFiber
    exact List.map_congr_left fun n _ => Prod.ext rfl (hy _)
  have hdrop : ∀ j : S64x100000.Idx, reducesTo_S64x100000_S64_d1.drop j = ix1 i ↔ (j 0).val = i.val := fun j => by
    have e := reducesTo_S64x100000_S64_d1.drop_apply_val_of_eq j 0 0
    constructor
    · intro h
      rw [← e, h]
    · intro h
      exact funext fun b => match b with | ⟨0, _⟩ => Fin.ext (e.trans h)
  have hmem : ∀ p, p ∈ l ↔ ∃ c < 100000, p = (f c, c) := fun p => by
    rw [hl, List.mem_map]
    constructor
    · rintro ⟨n, hn, rfl⟩
      have h0 := (hdrop _).mp (of_decide_eq_true (List.mem_filter.mp hn).2)
      refine ⟨(S64x100000.rowMajor.symm n 1).val, (S64x100000.rowMajor.symm n 1).isLt, Prod.ext ?_ rfl⟩
      show x (S64x100000.rowMajor.symm n) = _
      rw [← hf ⟨_, (S64x100000.rowMajor.symm n 1).isLt⟩]
      exact congrArg x ((eq_ix2 _).trans (congrArg (fun r : Fin 64 => ix2 r (S64x100000.rowMajor.symm n 1)) (Fin.ext h0)))
    · rintro ⟨c, hc, rfl⟩
      refine ⟨S64x100000.rowMajor (ix2 i ⟨c, hc⟩), List.mem_filter.mpr ⟨List.mem_finRange _, ?_⟩, ?_⟩
      · rw [Equiv.symm_apply_apply]
        exact decide_eq_true ((hdrop _).mpr rfl)
      · rw [Equiv.symm_apply_apply]
        exact Prod.ext (hf ⟨c, hc⟩) rfl
  have hinit : (u (Shape.Idx.first h_S_), v (Shape.Idx.first h_S_)) = asWord (⊥, 0) :=
    Prod.ext ((the_eq u _).trans hu) ((the_eq v _).trans hv)
  refine ⟨(l.foldl better (⊥, 0)).2, fold_isFirst (by decide) l hmem, ?_⟩
  rw [hfib, hinit, fold_words l _ (by decide) fun p hp => by
    obtain ⟨c, hc, rfl⟩ := (hmem p).mp hp
    exact hc.trans (by decide)]
  rfl

/-- The reference's result at a row. -/
theorem result_reads (h : Fixes W ops) (i : Fin 64) :
    ∃ k, IsFirst (row (fun r c => num W (.of main_arg0) (ix2 r c)) i) 100000 k ∧
      (W (Proc.devRef .tc main_v15) : S64.Idx → BitVec 32) (ix1 i) = BitVec.ofNat 32 k := by
  have hs := score_reads h i
  simp only [ops, fixes_append] at h
  obtain ⟨-, -, -, ha⟩ := h
  simp only [argmaxOps, fixes_cons] at ha
  obtain ⟨h1, h2, h3, -, h5, -⟩ := ha
  have e2 : num0 W main_call1.cst = ⊥ := (congrFun (read_nullary h2) _).trans negInf
  have e3 : word0 W main_call1.c = 0#32 := congrFun (read_nullary h3) _
  obtain ⟨k, hk, e⟩ := search_isFirst (rd W (.of main_v14 : Nums)) (rd W main_call1.v0) (rd W main_call1.cst) (rd W main_call1.c)
    (fun j => congrFun (read_nullary h1) j) e2 e3 i _ hs
  exact ⟨k, hk, (congrFun (read_quaternary h5) (ix1 i)).trans e⟩

end Cert.RefRun
-- ==== Proof.Algebraic.lean ====
/-
  The kernel and the reference, over the reals, from the same logits, end with the same result: in every row both give
  the column where the largest score first stands.
-/
module

public import proofs.«01_k».proof.Defs
public import proofs.«01_k».proof.Proof.KernelValue
public import proofs.«01_k».proof.Proof.RefValue

@[expose] public section

namespace Cert.Algebraic

open Idealize.ShloMosaic Idealize.SL.Sem

/-- From equal logits the two results are equal. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0)
      = m ((c.tc : Thread KernelIdeal.nD KernelIdeal.τ).loc KernelIdeal.main_arg0)) :
    (RefRun.final m' c (Proc.devRef .tc ReferenceIdeal.main_v15) : ReferenceIdeal.S64.Idx → BitVec 32)
      = shapeCast KernelIdeal.S64 (Sampler.outRow m c) KernelIdeal.Facts₀.shapeCasts_S1x64_S64 := by
  funext j
  obtain ⟨i, rfl⟩ : ∃ i : Fin 64, j = ValueIdx.ix1 i := ⟨j 0, ValueIdx.eq_ix1 j⟩
  obtain ⟨k, hk, e⟩ := RefRun.result_reads (RefRun.fixes_final m' c) i
  obtain ⟨k', hk', e'⟩ := Sampler.out_isFirst m c i
  have hrow : Score.row (fun r c' => RefRun.num (RefRun.final m' c) (.of ReferenceIdeal.main_arg0) (ValueIdx.ix2 r c')) i
      = Sampler.rowOf m c i := by
    refine congrArg (fun X => Score.row X i) (funext fun r => funext fun k => ?_)
    exact congrFun ((RefRun.final_arg0 m' c).trans h) (ValueIdx.ix2 r k)
  rw [hrow] at hk
  exact e.trans ((congrArg (BitVec.ofNat 32) (hk.unique hk')).trans e'.symm)

theorem algebraic : algebraic_KernelIdeal_ReferenceIdeal (hKernelIdeal := KernelIdeal.Gen.facts) (hReferenceIdeal := ReferenceIdeal.Gen.facts) := by
  intro m g m' g' _ hm
  refine ⟨fun c => shapeCast KernelIdeal.S64 (Sampler.outRow m c) KernelIdeal.Facts₀.shapeCasts_S1x64_S64, ?_, ?_⟩
  · exact (θ_run KernelIdeal.defs _ _).mono (fun _ h c => h.1 c) (Sampler.run_main m g)
  · refine (θ_run ReferenceIdeal.defs _ _).mono (fun r h c => ⟨?_, ?_⟩) (RefRun.run_ref m' g')
    · exact (h.1 c ReferenceIdeal.main_v15).trans (result_eq m m' c (hm c))
    · exact (h.1 c ReferenceIdeal.main_arg0).trans (RefRun.final_arg0 m' c)

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts,
  Frames.frame_kernel, Frames.frame_kernelIdeal, Frames.frame_referenceIdeal, trivial, Algebraic.algebraic⟩

end Cert.Proof

end
